-- ==== Defs.lean ====
def Pre_Kernel (m : (ℓ : Loc Cert.Kernel.nD Cert.Kernel.τ Cert.Kernel.sig) → Buf (Elt Bits) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v15)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v15) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v57_0)) (v1 : (c : Dev Cert.ProjIdeal.nD) → Buf (Elt Ideal) ((c.tc : Thread Cert.ProjIdeal.nD Cert.ProjIdeal.τ).loc Cert.ProjIdeal.main_v57_1)) (v2 : (c : Dev Cert.ProjIdeal.nD) → Buf (Elt Ideal) ((c.tc : Thread Cert.ProjIdeal.nD Cert.ProjIdeal.τ).loc Cert.ProjIdeal.main_v57_2)) (v3 : (c : Dev Cert.ProjIdeal.nD) → Buf (Elt Ideal) ((c.tc : Thread Cert.ProjIdeal.nD Cert.ProjIdeal.τ).loc Cert.ProjIdeal.main_v57_3)) (v4 : (c : Dev Cert.ProjIdeal.nD) → Buf (Elt Ideal) ((c.tc : Thread Cert.ProjIdeal.nD Cert.ProjIdeal.τ).loc Cert.ProjIdeal.main_v57_4)) (v5 : (c : Dev Cert.ProjIdeal.nD) → Buf (Elt Ideal) ((c.tc : Thread Cert.ProjIdeal.nD Cert.ProjIdeal.τ).loc Cert.ProjIdeal.main_v57_5)) (v6 : (c : Dev Cert.ProjIdeal.nD) → Buf (Elt Ideal) ((c.tc : Thread Cert.ProjIdeal.nD Cert.ProjIdeal.τ).loc Cert.ProjIdeal.main_v57_6)) (v7 : (c : Dev Cert.ProjIdeal.nD) → Buf (Elt Ideal) ((c.tc : Thread Cert.ProjIdeal.nD Cert.ProjIdeal.τ).loc Cert.ProjIdeal.main_v57_7)) (v8 : (c : Dev Cert.ProjIdeal.nD) → Buf (Elt Ideal) ((c.tc : Thread Cert.ProjIdeal.nD Cert.ProjIdeal.τ).loc Cert.ProjIdeal.main_v57_8)) (v9 : (c : Dev Cert.ProjIdeal.nD) → Buf (Elt Ideal) ((c.tc : Thread Cert.ProjIdeal.nD Cert.ProjIdeal.τ).loc Cert.ProjIdeal.main_v57_9)) (v10 : (c : Dev Cert.ProjIdeal.nD) → Buf (Elt Ideal) ((c.tc : Thread Cert.ProjIdeal.nD Cert.ProjIdeal.τ).loc Cert.ProjIdeal.main_v57_10)) (v11 : (c : Dev Cert.ProjIdeal.nD) → Buf (Elt Ideal) ((c.tc : Thread Cert.ProjIdeal.nD Cert.ProjIdeal.τ).loc Cert.ProjIdeal.main_v57_11)) (v12 : (c : Dev Cert.ProjIdeal.nD) → Buf (Elt Ideal) ((c.tc : Thread Cert.ProjIdeal.nD Cert.ProjIdeal.τ).loc Cert.ProjIdeal.main_v57_12)) (v13 : (c : Dev Cert.ProjIdeal.nD) → Buf (Elt Ideal) ((c.tc : Thread Cert.ProjIdeal.nD Cert.ProjIdeal.τ).loc Cert.ProjIdeal.main_v57_13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v57_0) = v0 c
          ∧ r.2.mem ((c.tc : Thread Cert.ProjIdeal.nD Cert.ProjIdeal.τ).loc Cert.ProjIdeal.main_v57_1) = v1 c
          ∧ r.2.mem ((c.tc : Thread Cert.ProjIdeal.nD Cert.ProjIdeal.τ).loc Cert.ProjIdeal.main_v57_2) = v2 c
          ∧ r.2.mem ((c.tc : Thread Cert.ProjIdeal.nD Cert.ProjIdeal.τ).loc Cert.ProjIdeal.main_v57_3) = v3 c
          ∧ r.2.mem ((c.tc : Thread Cert.ProjIdeal.nD Cert.ProjIdeal.τ).loc Cert.ProjIdeal.main_v57_4) = v4 c
          ∧ r.2.mem ((c.tc : Thread Cert.ProjIdeal.nD Cert.ProjIdeal.τ).loc Cert.ProjIdeal.main_v57_5) = v5 c
          ∧ r.2.mem ((c.tc : Thread Cert.ProjIdeal.nD Cert.ProjIdeal.τ).loc Cert.ProjIdeal.main_v57_6) = v6 c
          ∧ r.2.mem ((c.tc : Thread Cert.ProjIdeal.nD Cert.ProjIdeal.τ).loc Cert.ProjIdeal.main_v57_7) = v7 c
          ∧ r.2.mem ((c.tc : Thread Cert.ProjIdeal.nD Cert.ProjIdeal.τ).loc Cert.ProjIdeal.main_v57_8) = v8 c
          ∧ r.2.mem ((c.tc : Thread Cert.ProjIdeal.nD Cert.ProjIdeal.τ).loc Cert.ProjIdeal.main_v57_9) = v9 c
          ∧ r.2.mem ((c.tc : Thread Cert.ProjIdeal.nD Cert.ProjIdeal.τ).loc Cert.ProjIdeal.main_v57_10) = v10 c
          ∧ r.2.mem ((c.tc : Thread Cert.ProjIdeal.nD Cert.ProjIdeal.τ).loc Cert.ProjIdeal.main_v57_11) = v11 c
          ∧ r.2.mem ((c.tc : Thread Cert.ProjIdeal.nD Cert.ProjIdeal.τ).loc Cert.ProjIdeal.main_v57_12) = v12 c
          ∧ r.2.mem ((c.tc : Thread Cert.ProjIdeal.nD Cert.ProjIdeal.τ).loc Cert.ProjIdeal.main_v57_13) = v13 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v62) = v0 c
          ∧ r.2.mem ((c.tc : Thread Cert.ProjRefIdeal.nD Cert.ProjRefIdeal.τ).loc Cert.ProjRefIdeal.main_v63) = v1 c
          ∧ r.2.mem ((c.tc : Thread Cert.ProjRefIdeal.nD Cert.ProjRefIdeal.τ).loc Cert.ProjRefIdeal.main_v64) = v2 c
          ∧ r.2.mem ((c.tc : Thread Cert.ProjRefIdeal.nD Cert.ProjRefIdeal.τ).loc Cert.ProjRefIdeal.main_v65) = v3 c
          ∧ r.2.mem ((c.tc : Thread Cert.ProjRefIdeal.nD Cert.ProjRefIdeal.τ).loc Cert.ProjRefIdeal.main_v67) = v4 c
          ∧ r.2.mem ((c.tc : Thread Cert.ProjRefIdeal.nD Cert.ProjRefIdeal.τ).loc Cert.ProjRefIdeal.main_v21) = v5 c
          ∧ r.2.mem ((c.tc : Thread Cert.ProjRefIdeal.nD Cert.ProjRefIdeal.τ).loc Cert.ProjRefIdeal.main_v68) = v6 c
          ∧ r.2.mem ((c.tc : Thread Cert.ProjRefIdeal.nD Cert.ProjRefIdeal.τ).loc Cert.ProjRefIdeal.main_v71) = v7 c
          ∧ r.2.mem ((c.tc : Thread Cert.ProjRefIdeal.nD Cert.ProjRefIdeal.τ).loc Cert.ProjRefIdeal.main_v74) = v8 c
          ∧ r.2.mem ((c.tc : Thread Cert.ProjRefIdeal.nD Cert.ProjRefIdeal.τ).loc Cert.ProjRefIdeal.main_v78) = v9 c
          ∧ r.2.mem ((c.tc : Thread Cert.ProjRefIdeal.nD Cert.ProjRefIdeal.τ).loc Cert.ProjRefIdeal.main_v82) = v10 c
          ∧ r.2.mem ((c.tc : Thread Cert.ProjRefIdeal.nD Cert.ProjRefIdeal.τ).loc Cert.ProjRefIdeal.main_v83) = v11 c
          ∧ r.2.mem ((c.tc : Thread Cert.ProjRefIdeal.nD Cert.ProjRefIdeal.τ).loc Cert.ProjRefIdeal.main_v86) = v12 c
          ∧ r.2.mem ((c.tc : Thread Cert.ProjRefIdeal.nD Cert.ProjRefIdeal.τ).loc Cert.ProjRefIdeal.main_v88) = v13 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hKernel : Cert.Kernel.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts),
    quiescent_Kernel (hKernel := hKernel)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
-- ==== Kernel.lean ====
abbrev S32x2048x384 : Shape := ⟨3, ![32, 2048, 384]⟩
abbrev S32x8x384x256 : Shape := ⟨4, ![32, 8, 384, 256]⟩
abbrev S32x2048x256 : Shape := ⟨3, ![32, 2048, 256]⟩
abbrev S32x2048x128 : Shape := ⟨3, ![32, 2048, 128]⟩
abbrev S32x8x2048 : Shape := ⟨3, ![32, 8, 2048]⟩
abbrev S1x512x384 : Shape := ⟨3, ![1, 512, 384]⟩
abbrev S1x2048x384 : Shape := ⟨3, ![1, 2048, 384]⟩
abbrev S1x8x384x256 : Shape := ⟨4, ![1, 8, 384, 256]⟩
abbrev S1x512x256 : Shape := ⟨3, ![1, 512, 256]⟩
abbrev S1x2048x128 : Shape := ⟨3, ![1, 2048, 128]⟩
abbrev S1x8x512 : Shape := ⟨3, ![1, 8, 512]⟩
abbrev S8x256x512 : Shape := ⟨3, ![8, 256, 512]⟩
abbrev S8x32x8x512 : Shape := ⟨4, ![8, 32, 8, 512]⟩
abbrev S8x8x512 : Shape := ⟨3, ![8, 8, 512]⟩
abbrev S6x8x256x512 : Shape := ⟨4, ![6, 8, 256, 512]⟩
abbrev S6x8x512 : Shape := ⟨3, ![6, 8, 512]⟩
abbrev S6x80x512 : Shape := ⟨3, ![6, 80, 512]⟩
abbrev S384x512 : Shape := ⟨2, ![384, 512]⟩
abbrev S512x128 : Shape := ⟨2, ![512, 128]⟩
abbrev S256x512 : Shape := ⟨2, ![256, 512]⟩
abbrev S1x512x128 : Shape := ⟨3, ![1, 512, 128]⟩
abbrev S8x512 : Shape := ⟨2, ![8, 512]⟩
abbrev S1x256x128 : Shape := ⟨3, ![1, 256, 128]⟩
abbrev S256x128 : Shape := ⟨2, ![256, 128]⟩
abbrev S1x512 : Shape := ⟨2, ![1, 512]⟩
abbrev S1x256x512 : Shape := ⟨3, ![1, 256, 512]⟩
abbrev S1x1x8x512 : Shape := ⟨4, ![1, 1, 8, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S256x256 : Shape := ⟨2, ![256, 256]⟩
abbrev S1x1x256x512 : Shape := ⟨4, ![1, 1, 256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S16x256 : Shape := ⟨2, ![16, 256]⟩
abbrev S1x1x64x256 : Shape := ⟨4, ![1, 1, 64, 256]⟩
abbrev S64x256 : Shape := ⟨2, ![64, 256]⟩
abbrev S80x256 : Shape := ⟨2, ![80, 256]⟩
abbrev S1x80x512 : Shape := ⟨3, ![1, 80, 512]⟩
abbrev S80x512 : Shape := ⟨2, ![80, 512]⟩
abbrev S512x384 : Shape := ⟨2, ![512, 384]⟩

abbrev nBuf : Space → Nat
  | .hbm => 8
  | .vmem => 24
  | .smem => 0
  | _ => 0

abbrev bufTy : (tb : Table) → Fin (tcTables nBuf tb) → BufTy
  | .hbm, ⟨0, _⟩ => ⟨S32x2048x384, .bf16⟩
  | .hbm, ⟨1, _⟩ => ⟨S32x2048x384, .bf16⟩
  | .hbm, ⟨2, _⟩ => ⟨S32x8x384x256, .bf16⟩
  | .hbm, ⟨3, _⟩ => ⟨S32x2048x256, .bf16⟩
  | .hbm, ⟨4, _⟩ => ⟨S32x2048x128, .bf16⟩
  | .hbm, ⟨5, _⟩ => ⟨S32x8x2048, .f32⟩
  | .hbm, ⟨6, _⟩ => ⟨S32x2048x384, .f32⟩
  | .hbm, ⟨7, _⟩ => ⟨S32x2048x384, .bf16⟩
  | .local _ .vmem, ⟨0, _⟩ => ⟨S1x512x384, .bf16⟩
  | .local _ .vmem, ⟨1, _⟩ => ⟨S1x512x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x8x384x256, .bf16⟩
  | .local _ .vmem, ⟨5, _⟩ => ⟨S1x8x384x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x8x512, .f32⟩
  | .local _ .vmem, ⟨11, _⟩ => ⟨S1x8x512, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .bf16⟩
  | .local _ .vmem, ⟨15, _⟩ => ⟨S1x512x384, .bf16⟩
  | .local _ .vmem, ⟨16, _⟩ => ⟨S8x256x512, .i32⟩
  | .local _ .vmem, ⟨17, _⟩ => ⟨S8x32x8x512, .i32⟩
  | .local _ .vmem, ⟨18, _⟩ => ⟨S8x8x512, .i32⟩
  | .local _ .vmem, ⟨19, _⟩ => ⟨S8x256x512, .f32⟩
  | .local _ .vmem, ⟨20, _⟩ => ⟨S6x8x256x512, .f32⟩
  | .local _ .vmem, ⟨21, _⟩ => ⟨S6x8x512, .f32⟩
  | .local _ .vmem, ⟨22, _⟩ => ⟨S6x80x512, .f32⟩
  | .local _ .vmem, ⟨23, _⟩ => ⟨S384x512, .f32⟩
  | _, _ => ⟨S32x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![32, 4], ![false, false]⟩

@[reducible] def k0_t1_loop (i : grid0.Coords) : Scf.Loop 32 :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_23 : BitVec 32 := 1#32
  ⟨c0_i32_22, v36, c1_i32_23⟩
def k0_mult1 (i : grid0.Coords) (k0_t1 : Fin (k0_t1_loop i).trips) : BitVec 32 :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let c0_i32_882 : BitVec 32 := 0#32
  let v2157 : BitVec 32 := Scalar.addi v2156 c0_i32_882
  let c256_i32_883 : BitVec 32 := 256#32
  let v2158 : BitVec 32 := Scalar.muli v2157 c256_i32_883
  v2158
def k0_off1 (i : grid0.Coords) (k0_t1 : Fin (k0_t1_loop i).trips) (c0_i32_882 : BitVec 32) : Fin 3 → Nat :=
  let c0_884 : Index := 0#32
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2160 : Index := Scalar.indexCast v2159
  let c0_885 : Index := 0#32
  ![0, v2160.toNat, 0]
def k0_off2 (i : grid0.Coords) (k0_t1 : Fin (k0_t1_loop i).trips) (c0_i32_882 : BitVec 32) : Fin 3 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2198 : Index := Scalar.indexCast v2157
  let c0_897 : Index := 0#32
  let c0_898 : Index := 0#32
  ![v2198.toNat, 0, 0]
def k0_off3 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2956 : Index := Scalar.indexCast v2157
  let c0_1140 : Index := 0#32
  let c0_1141 : Index := 0#32
  let c0_1142 : Index := 0#32
  ![v2956.toNat, 0, 0, 0]
def k0_off4 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2960 : Index := Scalar.indexCast v2157
  let c1_1143 : Index := 1#32
  let c0_1144 : Index := 0#32
  let c0_1145 : Index := 0#32
  ![v2960.toNat, 1, 0, 0]
def k0_off5 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2964 : Index := Scalar.indexCast v2157
  let c2_1146 : Index := 2#32
  let c0_1147 : Index := 0#32
  let c0_1148 : Index := 0#32
  ![v2964.toNat, 2, 0, 0]
def k0_off6 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2968 : Index := Scalar.indexCast v2157
  let c3_1149 : Index := 3#32
  let c0_1150 : Index := 0#32
  let c0_1151 : Index := 0#32
  ![v2968.toNat, 3, 0, 0]
def k0_off7 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2972 : Index := Scalar.indexCast v2157
  let c4_1152 : Index := 4#32
  let c0_1153 : Index := 0#32
  let c0_1154 : Index := 0#32
  ![v2972.toNat, 4, 0, 0]
def k0_off8 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2976 : Index := Scalar.indexCast v2157
  let c5_1155 : Index := 5#32
  let c0_1156 : Index := 0#32
  let c0_1157 : Index := 0#32
  ![v2976.toNat, 5, 0, 0]
def k0_off9 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2980 : Index := Scalar.indexCast v2157
  let c6_1158 : Index := 6#32
  let c0_1159 : Index := 0#32
  let c0_1160 : Index := 0#32
  ![v2980.toNat, 6, 0, 0]
def k0_off10 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2984 : Index := Scalar.indexCast v2157
  let c7_1161 : Index := 7#32
  let c0_1162 : Index := 0#32
  let c0_1163 : Index := 0#32
  ![v2984.toNat, 7, 0, 0]
def k0_off11 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2988 : Index := Scalar.indexCast v2157
  let c8_1164 : Index := 8#32
  let c0_1165 : Index := 0#32
  let c0_1166 : Index := 0#32
  ![v2988.toNat, 8, 0, 0]
def k0_off12 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2992 : Index := Scalar.indexCast v2157
  let c9_1167 : Index := 9#32
  let c0_1168 : Index := 0#32
  let c0_1169 : Index := 0#32
  ![v2992.toNat, 9, 0, 0]
def k0_off13 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v2996 : Index := Scalar.indexCast v2157
  let c10_1170 : Index := 10#32
  let c0_1171 : Index := 0#32
  let c0_1172 : Index := 0#32
  ![v2996.toNat, 10, 0, 0]
def k0_off14 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3000 : Index := Scalar.indexCast v2157
  let c11_1173 : Index := 11#32
  let c0_1174 : Index := 0#32
  let c0_1175 : Index := 0#32
  ![v3000.toNat, 11, 0, 0]
def k0_off15 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3004 : Index := Scalar.indexCast v2157
  let c12_1176 : Index := 12#32
  let c0_1177 : Index := 0#32
  let c0_1178 : Index := 0#32
  ![v3004.toNat, 12, 0, 0]
def k0_off16 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3008 : Index := Scalar.indexCast v2157
  let c13_1179 : Index := 13#32
  let c0_1180 : Index := 0#32
  let c0_1181 : Index := 0#32
  ![v3008.toNat, 13, 0, 0]
def k0_off17 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3012 : Index := Scalar.indexCast v2157
  let c14_1182 : Index := 14#32
  let c0_1183 : Index := 0#32
  let c0_1184 : Index := 0#32
  ![v3012.toNat, 14, 0, 0]
def k0_off18 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3016 : Index := Scalar.indexCast v2157
  let c15_1185 : Index := 15#32
  let c0_1186 : Index := 0#32
  let c0_1187 : Index := 0#32
  ![v3016.toNat, 15, 0, 0]
def k0_off19 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3020 : Index := Scalar.indexCast v2157
  let c16_1188 : Index := 16#32
  let c0_1189 : Index := 0#32
  let c0_1190 : Index := 0#32
  ![v3020.toNat, 16, 0, 0]
def k0_off20 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3024 : Index := Scalar.indexCast v2157
  let c17_1191 : Index := 17#32
  let c0_1192 : Index := 0#32
  let c0_1193 : Index := 0#32
  ![v3024.toNat, 17, 0, 0]
def k0_off21 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3028 : Index := Scalar.indexCast v2157
  let c18_1194 : Index := 18#32
  let c0_1195 : Index := 0#32
  let c0_1196 : Index := 0#32
  ![v3028.toNat, 18, 0, 0]
def k0_off22 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3032 : Index := Scalar.indexCast v2157
  let c19_1197 : Index := 19#32
  let c0_1198 : Index := 0#32
  let c0_1199 : Index := 0#32
  ![v3032.toNat, 19, 0, 0]
def k0_off23 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3036 : Index := Scalar.indexCast v2157
  let c20_1200 : Index := 20#32
  let c0_1201 : Index := 0#32
  let c0_1202 : Index := 0#32
  ![v3036.toNat, 20, 0, 0]
def k0_off24 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3040 : Index := Scalar.indexCast v2157
  let c21_1203 : Index := 21#32
  let c0_1204 : Index := 0#32
  let c0_1205 : Index := 0#32
  ![v3040.toNat, 21, 0, 0]
def k0_off25 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3044 : Index := Scalar.indexCast v2157
  let c22_1206 : Index := 22#32
  let c0_1207 : Index := 0#32
  let c0_1208 : Index := 0#32
  ![v3044.toNat, 22, 0, 0]
def k0_off26 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3048 : Index := Scalar.indexCast v2157
  let c23_1209 : Index := 23#32
  let c0_1210 : Index := 0#32
  let c0_1211 : Index := 0#32
  ![v3048.toNat, 23, 0, 0]
def k0_off27 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3052 : Index := Scalar.indexCast v2157
  let c24_1212 : Index := 24#32
  let c0_1213 : Index := 0#32
  let c0_1214 : Index := 0#32
  ![v3052.toNat, 24, 0, 0]
def k0_off28 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3056 : Index := Scalar.indexCast v2157
  let c25_1215 : Index := 25#32
  let c0_1216 : Index := 0#32
  let c0_1217 : Index := 0#32
  ![v3056.toNat, 25, 0, 0]
def k0_off29 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3060 : Index := Scalar.indexCast v2157
  let c26_1218 : Index := 26#32
  let c0_1219 : Index := 0#32
  let c0_1220 : Index := 0#32
  ![v3060.toNat, 26, 0, 0]
def k0_off30 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3064 : Index := Scalar.indexCast v2157
  let c27_1221 : Index := 27#32
  let c0_1222 : Index := 0#32
  let c0_1223 : Index := 0#32
  ![v3064.toNat, 27, 0, 0]
def k0_off31 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3068 : Index := Scalar.indexCast v2157
  let c28_1224 : Index := 28#32
  let c0_1225 : Index := 0#32
  let c0_1226 : Index := 0#32
  ![v3068.toNat, 28, 0, 0]
def k0_off32 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3072 : Index := Scalar.indexCast v2157
  let c29_1227 : Index := 29#32
  let c0_1228 : Index := 0#32
  let c0_1229 : Index := 0#32
  ![v3072.toNat, 29, 0, 0]
def k0_off33 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3076 : Index := Scalar.indexCast v2157
  let c30_1230 : Index := 30#32
  let c0_1231 : Index := 0#32
  let c0_1232 : Index := 0#32
  ![v3076.toNat, 30, 0, 0]
def k0_off34 (i : grid0.Coords) (k0_t1 : Fin (k0_t1_loop i).trips) (c0_i32_882 : BitVec 32) : Fin 4 → Nat :=
  let c0_i32_22 : BitVec 32 := 0#32
  let c1_i32_23 : BitVec 32 := 1#32
  let arg18 : BitVec 32 := Scf.iv c0_i32_22 c1_i32_23 k0_t1
  let c2_i32_881 : BitVec 32 := 2#32
  let v2156 : BitVec 32 := Scalar.muli arg18 c2_i32_881
  let v2157 : BitVec 32 := Scalar.addi v2156 c0_i32_882
  let v3080 : Index := Scalar.indexCast v2157
  let c31_1233 : Index := 31#32
  let c0_1234 : Index := 0#32
  let c0_1235 : Index := 0#32
  ![v3080.toNat, 31, 0, 0]
def k0_mult2 (i : grid0.Coords) (k0_t1 : Fin (k0_t1_loop i).trips) : BitVec 32 :=
  let c0_i32_22 : BitVec 32 := 0#32
  let c1_i32_23 : BitVec 32 := 1#32
  let arg18 : BitVec 32 := Scf.iv c0_i32_22 c1_i32_23 k0_t1
  let c2_i32_1236 : BitVec 32 := 2#32
  let v3084 : BitVec 32 := Scalar.muli arg18 c2_i32_1236
  let c1_i32_1237 : BitVec 32 := 1#32
  let v3085 : BitVec 32 := Scalar.addi v3084 c1_i32_1237
  let c256_i32_1238 : BitVec 32 := 256#32
  let v3086 : BitVec 32 := Scalar.muli v3085 c256_i32_1238
  v3086
@[reducible] def k0_t2_loop (i : grid0.Coords) : Scf.Loop 32 :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let v33 : BitVec 32 := Scalar.addi c0_i32_22 v32
  let c1_i32_24 : BitVec 32 := 1#32
  ⟨v36, v33, c1_i32_24⟩
def k0_mult3 (i : grid0.Coords) (k0_t2 : Fin (k0_t2_loop i).trips) : BitVec 32 :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let c0_i32_882 : BitVec 32 := 0#32
  let v2157 : BitVec 32 := Scalar.addi v2156 c0_i32_882
  let c256_i32_883 : BitVec 32 := 256#32
  let v2158 : BitVec 32 := Scalar.muli v2157 c256_i32_883
  v2158
def k0_off35 (i : grid0.Coords) (k0_t2 : Fin (k0_t2_loop i).trips) (c0_i32_882 : BitVec 32) : Fin 3 → Nat :=
  let c0_884 : Index := 0#32
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2160 : Index := Scalar.indexCast v2159
  let c0_885 : Index := 0#32
  ![0, v2160.toNat, 0]
def k0_off36 (i : grid0.Coords) (k0_t2 : Fin (k0_t2_loop i).trips) (c0_i32_882 : BitVec 32) : Fin 3 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2198 : Index := Scalar.indexCast v2157
  let c0_897 : Index := 0#32
  let c0_898 : Index := 0#32
  ![v2198.toNat, 0, 0]
def k0_off37 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2956 : Index := Scalar.indexCast v2157
  let c0_1140 : Index := 0#32
  let c0_1141 : Index := 0#32
  let c0_1142 : Index := 0#32
  ![v2956.toNat, 0, 0, 0]
def k0_off38 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2960 : Index := Scalar.indexCast v2157
  let c1_1143 : Index := 1#32
  let c0_1144 : Index := 0#32
  let c0_1145 : Index := 0#32
  ![v2960.toNat, 1, 0, 0]
def k0_off39 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2964 : Index := Scalar.indexCast v2157
  let c2_1146 : Index := 2#32
  let c0_1147 : Index := 0#32
  let c0_1148 : Index := 0#32
  ![v2964.toNat, 2, 0, 0]
def k0_off40 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2968 : Index := Scalar.indexCast v2157
  let c3_1149 : Index := 3#32
  let c0_1150 : Index := 0#32
  let c0_1151 : Index := 0#32
  ![v2968.toNat, 3, 0, 0]
def k0_off41 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2972 : Index := Scalar.indexCast v2157
  let c4_1152 : Index := 4#32
  let c0_1153 : Index := 0#32
  let c0_1154 : Index := 0#32
  ![v2972.toNat, 4, 0, 0]
def k0_off42 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2976 : Index := Scalar.indexCast v2157
  let c5_1155 : Index := 5#32
  let c0_1156 : Index := 0#32
  let c0_1157 : Index := 0#32
  ![v2976.toNat, 5, 0, 0]
def k0_off43 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2980 : Index := Scalar.indexCast v2157
  let c6_1158 : Index := 6#32
  let c0_1159 : Index := 0#32
  let c0_1160 : Index := 0#32
  ![v2980.toNat, 6, 0, 0]
def k0_off44 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2984 : Index := Scalar.indexCast v2157
  let c7_1161 : Index := 7#32
  let c0_1162 : Index := 0#32
  let c0_1163 : Index := 0#32
  ![v2984.toNat, 7, 0, 0]
def k0_off45 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2988 : Index := Scalar.indexCast v2157
  let c8_1164 : Index := 8#32
  let c0_1165 : Index := 0#32
  let c0_1166 : Index := 0#32
  ![v2988.toNat, 8, 0, 0]
def k0_off46 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2992 : Index := Scalar.indexCast v2157
  let c9_1167 : Index := 9#32
  let c0_1168 : Index := 0#32
  let c0_1169 : Index := 0#32
  ![v2992.toNat, 9, 0, 0]
def k0_off47 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v2996 : Index := Scalar.indexCast v2157
  let c10_1170 : Index := 10#32
  let c0_1171 : Index := 0#32
  let c0_1172 : Index := 0#32
  ![v2996.toNat, 10, 0, 0]
def k0_off48 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3000 : Index := Scalar.indexCast v2157
  let c11_1173 : Index := 11#32
  let c0_1174 : Index := 0#32
  let c0_1175 : Index := 0#32
  ![v3000.toNat, 11, 0, 0]
def k0_off49 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3004 : Index := Scalar.indexCast v2157
  let c12_1176 : Index := 12#32
  let c0_1177 : Index := 0#32
  let c0_1178 : Index := 0#32
  ![v3004.toNat, 12, 0, 0]
def k0_off50 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3008 : Index := Scalar.indexCast v2157
  let c13_1179 : Index := 13#32
  let c0_1180 : Index := 0#32
  let c0_1181 : Index := 0#32
  ![v3008.toNat, 13, 0, 0]
def k0_off51 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3012 : Index := Scalar.indexCast v2157
  let c14_1182 : Index := 14#32
  let c0_1183 : Index := 0#32
  let c0_1184 : Index := 0#32
  ![v3012.toNat, 14, 0, 0]
def k0_off52 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3016 : Index := Scalar.indexCast v2157
  let c15_1185 : Index := 15#32
  let c0_1186 : Index := 0#32
  let c0_1187 : Index := 0#32
  ![v3016.toNat, 15, 0, 0]
def k0_off53 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3020 : Index := Scalar.indexCast v2157
  let c16_1188 : Index := 16#32
  let c0_1189 : Index := 0#32
  let c0_1190 : Index := 0#32
  ![v3020.toNat, 16, 0, 0]
def k0_off54 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3024 : Index := Scalar.indexCast v2157
  let c17_1191 : Index := 17#32
  let c0_1192 : Index := 0#32
  let c0_1193 : Index := 0#32
  ![v3024.toNat, 17, 0, 0]
def k0_off55 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3028 : Index := Scalar.indexCast v2157
  let c18_1194 : Index := 18#32
  let c0_1195 : Index := 0#32
  let c0_1196 : Index := 0#32
  ![v3028.toNat, 18, 0, 0]
def k0_off56 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3032 : Index := Scalar.indexCast v2157
  let c19_1197 : Index := 19#32
  let c0_1198 : Index := 0#32
  let c0_1199 : Index := 0#32
  ![v3032.toNat, 19, 0, 0]
def k0_off57 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3036 : Index := Scalar.indexCast v2157
  let c20_1200 : Index := 20#32
  let c0_1201 : Index := 0#32
  let c0_1202 : Index := 0#32
  ![v3036.toNat, 20, 0, 0]
def k0_off58 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3040 : Index := Scalar.indexCast v2157
  let c21_1203 : Index := 21#32
  let c0_1204 : Index := 0#32
  let c0_1205 : Index := 0#32
  ![v3040.toNat, 21, 0, 0]
def k0_off59 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3044 : Index := Scalar.indexCast v2157
  let c22_1206 : Index := 22#32
  let c0_1207 : Index := 0#32
  let c0_1208 : Index := 0#32
  ![v3044.toNat, 22, 0, 0]
def k0_off60 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3048 : Index := Scalar.indexCast v2157
  let c23_1209 : Index := 23#32
  let c0_1210 : Index := 0#32
  let c0_1211 : Index := 0#32
  ![v3048.toNat, 23, 0, 0]
def k0_off61 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3052 : Index := Scalar.indexCast v2157
  let c24_1212 : Index := 24#32
  let c0_1213 : Index := 0#32
  let c0_1214 : Index := 0#32
  ![v3052.toNat, 24, 0, 0]
def k0_off62 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3056 : Index := Scalar.indexCast v2157
  let c25_1215 : Index := 25#32
  let c0_1216 : Index := 0#32
  let c0_1217 : Index := 0#32
  ![v3056.toNat, 25, 0, 0]
def k0_off63 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3060 : Index := Scalar.indexCast v2157
  let c26_1218 : Index := 26#32
  let c0_1219 : Index := 0#32
  let c0_1220 : Index := 0#32
  ![v3060.toNat, 26, 0, 0]
def k0_off64 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3064 : Index := Scalar.indexCast v2157
  let c27_1221 : Index := 27#32
  let c0_1222 : Index := 0#32
  let c0_1223 : Index := 0#32
  ![v3064.toNat, 27, 0, 0]
def k0_off65 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3068 : Index := Scalar.indexCast v2157
  let c28_1224 : Index := 28#32
  let c0_1225 : Index := 0#32
  let c0_1226 : Index := 0#32
  ![v3068.toNat, 28, 0, 0]
def k0_off66 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3072 : Index := Scalar.indexCast v2157
  let c29_1227 : Index := 29#32
  let c0_1228 : Index := 0#32
  let c0_1229 : Index := 0#32
  ![v3072.toNat, 29, 0, 0]
def k0_off67 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3076 : Index := Scalar.indexCast v2157
  let c30_1230 : Index := 30#32
  let c0_1231 : Index := 0#32
  let c0_1232 : Index := 0#32
  ![v3076.toNat, 30, 0, 0]
def k0_off68 (i : grid0.Coords) (k0_t2 : Fin (k0_t2_loop i).trips) (c0_i32_882 : BitVec 32) : Fin 4 → Nat :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_881 : BitVec 32 := 2#32
  let v2156 : BitVec 32 := Scalar.muli arg18 c2_i32_881
  let v2157 : BitVec 32 := Scalar.addi v2156 c0_i32_882
  let v3080 : Index := Scalar.indexCast v2157
  let c31_1233 : Index := 31#32
  let c0_1234 : Index := 0#32
  let c0_1235 : Index := 0#32
  ![v3080.toNat, 31, 0, 0]
def k0_mult4 (i : grid0.Coords) (k0_t2 : Fin (k0_t2_loop i).trips) : BitVec 32 :=
  let c0_i32_22 : BitVec 32 := 0#32
  let arg1 : BitVec 32 := BitVec.ofNat 32 (i 1).val
  let v32 : BitVec 32 := Scalar.subi arg1 c0_i32_22
  let c1_i32 : BitVec 32 := 1#32
  let v34 : BitVec 32 := Scalar.divsi v32 c1_i32
  let v35 : BitVec 32 := Scalar.muli v34 c1_i32
  let v36 : BitVec 32 := Scalar.addi c0_i32_22 v35
  let c1_i32_24 : BitVec 32 := 1#32
  let arg18 : BitVec 32 := Scf.iv v36 c1_i32_24 k0_t2
  let c2_i32_1236 : BitVec 32 := 2#32
  let v3084 : BitVec 32 := Scalar.muli arg18 c2_i32_1236
  let c1_i32_1237 : BitVec 32 := 1#32
  let v3085 : BitVec 32 := Scalar.addi v3084 c1_i32_1237
  let c256_i32_1238 : BitVec 32 := 256#32
  let v3086 : BitVec 32 := Scalar.muli v3085 c256_i32_1238
  v3086
def k0_mult5 (i : grid0.Coords) : BitVec 32 :=
  let arg1 : BitVec 32 := BitVec.ofNat 32 (i 1).val
  let c2_i32 : BitVec 32 := 2#32
  let v0 : BitVec 32 := Scalar.muli arg1 c2_i32
  let c0_i32_25 : BitVec 32 := 0#32
  let v37 : BitVec 32 := Scalar.addi v0 c0_i32_25
  let c256_i32 : BitVec 32 := 256#32
  let v38 : BitVec 32 := Scalar.muli v37 c256_i32
  v38
def k0_off69 (i : grid0.Coords) (c0_i32_25 : BitVec 32) : Fin 3 → Nat :=
  let c0_26 : Index := 0#32
  let arg1 : BitVec 32 := BitVec.ofNat 32 (i 1).val
  let c2_i32 : BitVec 32 := 2#32
  let v0 : BitVec 32 := Scalar.muli arg1 c2_i32
  let v37 : BitVec 32 := Scalar.addi v0 c0_i32_25
  let c256_i32 : BitVec 32 := 256#32
  let v38 : BitVec 32 := Scalar.muli v37 c256_i32
  let v39 : BitVec 32 := v38
  let v40 : Index := Scalar.indexCast v39
  let c0_27 : Index := 0#32
  ![0, v40.toNat, 0]
def k0_off70 (i : grid0.Coords) (c0_i32_25 : BitVec 32) : Fin 3 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v86 : Index := Scalar.indexCast v37
  let c0_37 : Index := 0#32
  let c0_38 : Index := 0#32
  ![v86.toNat, 0, 0]
def k0_off71 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v844 : Index := Scalar.indexCast v37
  let c0_272 : Index := 0#32
  let c0_273 : Index := 0#32
  let c0_274 : Index := 0#32
  ![v844.toNat, 0, 0, 0]
def k0_off72 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v848 : Index := Scalar.indexCast v37
  let c1 : Index := 1#32
  let c0_275 : Index := 0#32
  let c0_276 : Index := 0#32
  ![v848.toNat, 1, 0, 0]
def k0_off73 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v852 : Index := Scalar.indexCast v37
  let c2 : Index := 2#32
  let c0_277 : Index := 0#32
  let c0_278 : Index := 0#32
  ![v852.toNat, 2, 0, 0]
def k0_off74 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v856 : Index := Scalar.indexCast v37
  let c3 : Index := 3#32
  let c0_279 : Index := 0#32
  let c0_280 : Index := 0#32
  ![v856.toNat, 3, 0, 0]
def k0_off75 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v860 : Index := Scalar.indexCast v37
  let c4 : Index := 4#32
  let c0_281 : Index := 0#32
  let c0_282 : Index := 0#32
  ![v860.toNat, 4, 0, 0]
def k0_off76 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v864 : Index := Scalar.indexCast v37
  let c5 : Index := 5#32
  let c0_283 : Index := 0#32
  let c0_284 : Index := 0#32
  ![v864.toNat, 5, 0, 0]
def k0_off77 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v868 : Index := Scalar.indexCast v37
  let c6 : Index := 6#32
  let c0_285 : Index := 0#32
  let c0_286 : Index := 0#32
  ![v868.toNat, 6, 0, 0]
def k0_off78 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v872 : Index := Scalar.indexCast v37
  let c7 : Index := 7#32
  let c0_287 : Index := 0#32
  let c0_288 : Index := 0#32
  ![v872.toNat, 7, 0, 0]
def k0_off79 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v876 : Index := Scalar.indexCast v37
  let c8 : Index := 8#32
  let c0_289 : Index := 0#32
  let c0_290 : Index := 0#32
  ![v876.toNat, 8, 0, 0]
def k0_off80 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v880 : Index := Scalar.indexCast v37
  let c9 : Index := 9#32
  let c0_291 : Index := 0#32
  let c0_292 : Index := 0#32
  ![v880.toNat, 9, 0, 0]
def k0_off81 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v884 : Index := Scalar.indexCast v37
  let c10 : Index := 10#32
  let c0_293 : Index := 0#32
  let c0_294 : Index := 0#32
  ![v884.toNat, 10, 0, 0]
def k0_off82 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v888 : Index := Scalar.indexCast v37
  let c11 : Index := 11#32
  let c0_295 : Index := 0#32
  let c0_296 : Index := 0#32
  ![v888.toNat, 11, 0, 0]
def k0_off83 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v892 : Index := Scalar.indexCast v37
  let c12 : Index := 12#32
  let c0_297 : Index := 0#32
  let c0_298 : Index := 0#32
  ![v892.toNat, 12, 0, 0]
def k0_off84 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v896 : Index := Scalar.indexCast v37
  let c13 : Index := 13#32
  let c0_299 : Index := 0#32
  let c0_300 : Index := 0#32
  ![v896.toNat, 13, 0, 0]
def k0_off85 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v900 : Index := Scalar.indexCast v37
  let c14 : Index := 14#32
  let c0_301 : Index := 0#32
  let c0_302 : Index := 0#32
  ![v900.toNat, 14, 0, 0]
def k0_off86 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v904 : Index := Scalar.indexCast v37
  let c15 : Index := 15#32
  let c0_303 : Index := 0#32
  let c0_304 : Index := 0#32
  ![v904.toNat, 15, 0, 0]
def k0_off87 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v908 : Index := Scalar.indexCast v37
  let c16 : Index := 16#32
  let c0_305 : Index := 0#32
  let c0_306 : Index := 0#32
  ![v908.toNat, 16, 0, 0]
def k0_off88 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v912 : Index := Scalar.indexCast v37
  let c17 : Index := 17#32
  let c0_307 : Index := 0#32
  let c0_308 : Index := 0#32
  ![v912.toNat, 17, 0, 0]
def k0_off89 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v916 : Index := Scalar.indexCast v37
  let c18 : Index := 18#32
  let c0_309 : Index := 0#32
  let c0_310 : Index := 0#32
  ![v916.toNat, 18, 0, 0]
def k0_off90 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v920 : Index := Scalar.indexCast v37
  let c19 : Index := 19#32
  let c0_311 : Index := 0#32
  let c0_312 : Index := 0#32
  ![v920.toNat, 19, 0, 0]
def k0_off91 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v924 : Index := Scalar.indexCast v37
  let c20 : Index := 20#32
  let c0_313 : Index := 0#32
  let c0_314 : Index := 0#32
  ![v924.toNat, 20, 0, 0]
def k0_off92 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v928 : Index := Scalar.indexCast v37
  let c21 : Index := 21#32
  let c0_315 : Index := 0#32
  let c0_316 : Index := 0#32
  ![v928.toNat, 21, 0, 0]
def k0_off93 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v932 : Index := Scalar.indexCast v37
  let c22 : Index := 22#32
  let c0_317 : Index := 0#32
  let c0_318 : Index := 0#32
  ![v932.toNat, 22, 0, 0]
def k0_off94 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v936 : Index := Scalar.indexCast v37
  let c23 : Index := 23#32
  let c0_319 : Index := 0#32
  let c0_320 : Index := 0#32
  ![v936.toNat, 23, 0, 0]
def k0_off95 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v940 : Index := Scalar.indexCast v37
  let c24 : Index := 24#32
  let c0_321 : Index := 0#32
  let c0_322 : Index := 0#32
  ![v940.toNat, 24, 0, 0]
def k0_off96 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v944 : Index := Scalar.indexCast v37
  let c25 : Index := 25#32
  let c0_323 : Index := 0#32
  let c0_324 : Index := 0#32
  ![v944.toNat, 25, 0, 0]
def k0_off97 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v948 : Index := Scalar.indexCast v37
  let c26 : Index := 26#32
  let c0_325 : Index := 0#32
  let c0_326 : Index := 0#32
  ![v948.toNat, 26, 0, 0]
def k0_off98 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v952 : Index := Scalar.indexCast v37
  let c27 : Index := 27#32
  let c0_327 : Index := 0#32
  let c0_328 : Index := 0#32
  ![v952.toNat, 27, 0, 0]
def k0_off99 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v956 : Index := Scalar.indexCast v37
  let c28 : Index := 28#32
  let c0_329 : Index := 0#32
  let c0_330 : Index := 0#32
  ![v956.toNat, 28, 0, 0]
def k0_off100 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v960 : Index := Scalar.indexCast v37
  let c29 : Index := 29#32
  let c0_331 : Index := 0#32
  let c0_332 : Index := 0#32
  ![v960.toNat, 29, 0, 0]
def k0_off101 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v964 : Index := Scalar.indexCast v37
  let c30 : Index := 30#32
  let c0_333 : Index := 0#32
  let c0_334 : Index := 0#32
  ![v964.toNat, 30, 0, 0]
def k0_off102 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let v37 : BitVec 32 := Scalar.addi v0 c0_i32_25
  let v968 : Index := Scalar.indexCast v37
  let c31 : Index := 31#32
  let c0_335 : Index := 0#32
  let c0_336 : Index := 0#32
  ![v968.toNat, 31, 0, 0]
def k0_mult6 (i : grid0.Coords) : BitVec 32 :=
  let arg1 : BitVec 32 := BitVec.ofNat 32 (i 1).val
  let c2_i32 : BitVec 32 := 2#32
  let v0 : BitVec 32 := Scalar.muli arg1 c2_i32
  let c1_i32_337 : BitVec 32 := 1#32
  let v972 : BitVec 32 := Scalar.addi v0 c1_i32_337
  let c256_i32_338 : BitVec 32 := 256#32
  let v973 : BitVec 32 := Scalar.muli v972 c256_i32_338
  v973
@[reducible] def k0_t3_loop : Scf.Loop 32 :=
  let c0_i32_738 : BitVec 32 := 0#32
  let c32_i32 : BitVec 32 := 32#32
  let v1965 : BitVec 32 := Scalar.addi c0_i32_738 c32_i32
  let c1_i32_739 : BitVec 32 := 1#32
  ⟨c0_i32_738, v1965, c1_i32_739⟩
def k0_off103 (k0_t3 : Fin k0_t3_loop.trips) : Fin 4 → Nat :=
  let c0_885 : Index := 0#32
  let c0_i32_738 : BitVec 32 := 0#32
  let c1_i32_739 : BitVec 32 := 1#32
  let arg18 : BitVec 32 := Scf.iv c0_i32_738 c1_i32_739 k0_t3
  let v2159 : Index := Scalar.indexCast arg18
  let c0_886 : Index := 0#32
  let c0_887 : Index := 0#32
  ![0, v2159.toNat, 0, 0]
def k0_off104 (k0_t3 : Fin k0_t3_loop.trips) : Fin 4 → Nat :=
  let c1_891 : Index := 1#32
  let c0_i32_738 : BitVec 32 := 0#32
  let c1_i32_739 : BitVec 32 := 1#32
  let arg18 : BitVec 32 := Scf.iv c0_i32_738 c1_i32_739 k0_t3
  let v2167 : Index := Scalar.indexCast arg18
  let c0_892 : Index := 0#32
  let c0_893 : Index := 0#32
  ![1, v2167.toNat, 0, 0]
def k0_off105 (k0_t3 : Fin k0_t3_loop.trips) : Fin 4 → Nat :=
  let c2_897 : Index := 2#32
  let c0_i32_738 : BitVec 32 := 0#32
  let c1_i32_739 : BitVec 32 := 1#32
  let arg18 : BitVec 32 := Scf.iv c0_i32_738 c1_i32_739 k0_t3
  let v2175 : Index := Scalar.indexCast arg18
  let c0_898 : Index := 0#32
  let c0_899 : Index := 0#32
  ![2, v2175.toNat, 0, 0]
def k0_off106 (k0_t3 : Fin k0_t3_loop.trips) : Fin 4 → Nat :=
  let c3_903 : Index := 3#32
  let c0_i32_738 : BitVec 32 := 0#32
  let c1_i32_739 : BitVec 32 := 1#32
  let arg18 : BitVec 32 := Scf.iv c0_i32_738 c1_i32_739 k0_t3
  let v2183 : Index := Scalar.indexCast arg18
  let c0_904 : Index := 0#32
  let c0_905 : Index := 0#32
  ![3, v2183.toNat, 0, 0]
def k0_off107 (k0_t3 : Fin k0_t3_loop.trips) : Fin 4 → Nat :=
  let c4_909 : Index := 4#32
  let c0_i32_738 : BitVec 32 := 0#32
  let c1_i32_739 : BitVec 32 := 1#32
  let arg18 : BitVec 32 := Scf.iv c0_i32_738 c1_i32_739 k0_t3
  let v2191 : Index := Scalar.indexCast arg18
  let c0_910 : Index := 0#32
  let c0_911 : Index := 0#32
  ![4, v2191.toNat, 0, 0]
def k0_off108 (k0_t3 : Fin k0_t3_loop.trips) : Fin 4 → Nat :=
  let c5_915 : Index := 5#32
  let c0_i32_738 : BitVec 32 := 0#32
  let c1_i32_739 : BitVec 32 := 1#32
  let arg18 : BitVec 32 := Scf.iv c0_i32_738 c1_i32_739 k0_t3
  let v2199 : Index := Scalar.indexCast arg18
  let c0_916 : Index := 0#32
  let c0_917 : Index := 0#32
  ![5, v2199.toNat, 0, 0]
def k0_off109 (k0_t3 : Fin k0_t3_loop.trips) : Fin 4 → Nat :=
  let c6_921 : Index := 6#32
  let c0_i32_738 : BitVec 32 := 0#32
  let c1_i32_739 : BitVec 32 := 1#32
  let arg18 : BitVec 32 := Scf.iv c0_i32_738 c1_i32_739 k0_t3
  let v2207 : Index := Scalar.indexCast arg18
  let c0_922 : Index := 0#32
  let c0_923 : Index := 0#32
  ![6, v2207.toNat, 0, 0]
def k0_off110 (k0_t3 : Fin k0_t3_loop.trips) : Fin 4 → Nat :=
  let c7_927 : Index := 7#32
  let c0_i32_738 : BitVec 32 := 0#32
  let c1_i32_739 : BitVec 32 := 1#32
  let arg18 : BitVec 32 := Scf.iv c0_i32_738 c1_i32_739 k0_t3
  let v2215 : Index := Scalar.indexCast arg18
  let c0_928 : Index := 0#32
  let c0_929 : Index := 0#32
  ![7, v2215.toNat, 0, 0]
@[reducible] def k0_t4_loop (i : grid0.Coords) : Scf.Loop 32 :=
  let c0_i32_884 : BitVec 32 := 0#32
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let v2164 : BitVec 32 := Scalar.subi v1 c0_i32_884
  let c1_i32_885 : BitVec 32 := 1#32
  let v2166 : BitVec 32 := Scalar.divsi v2164 c1_i32_885
  let v2167 : BitVec 32 := Scalar.muli v2166 c1_i32_885
  let v2168 : BitVec 32 := Scalar.addi c0_i32_884 v2167
  let c1_i32_886 : BitVec 32 := 1#32
  ⟨c0_i32_884, v2168, c1_i32_886⟩
def k0_off111 (i : grid0.Coords) (k0_t4 : Fin (k0_t4_loop i).trips) : Fin 3 → Nat :=
  let c0_i32_884 : BitVec 32 := 0#32
  let c1_i32_886 : BitVec 32 := 1#32
  let arg18 : BitVec 32 := Scf.iv c0_i32_884 c1_i32_886 k0_t4
  let v2171 : Index := Scalar.indexCast arg18
  let c0_888 : Index := 0#32
  let c0_889 : Index := 0#32
  ![v2171.toNat, 0, 0]
@[reducible] def k0_t5_loop (i : grid0.Coords) : Scf.Loop 32 :=
  let c0_i32_884 : BitVec 32 := 0#32
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let v2164 : BitVec 32 := Scalar.subi v1 c0_i32_884
  let c1_i32_885 : BitVec 32 := 1#32
  let v2166 : BitVec 32 := Scalar.divsi v2164 c1_i32_885
  let v2167 : BitVec 32 := Scalar.muli v2166 c1_i32_885
  let v2168 : BitVec 32 := Scalar.addi c0_i32_884 v2167
  let v2165 : BitVec 32 := Scalar.addi c0_i32_884 v2164
  let c1_i32_887 : BitVec 32 := 1#32
  ⟨v2168, v2165, c1_i32_887⟩
def k0_off112 (i : grid0.Coords) (k0_t5 : Fin (k0_t5_loop i).trips) : Fin 3 → Nat :=
  let c0_i32_884 : BitVec 32 := 0#32
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let v2164 : BitVec 32 := Scalar.subi v1 c0_i32_884
  let c1_i32_885 : BitVec 32 := 1#32
  let v2166 : BitVec 32 := Scalar.divsi v2164 c1_i32_885
  let v2167 : BitVec 32 := Scalar.muli v2166 c1_i32_885
  let v2168 : BitVec 32 := Scalar.addi c0_i32_884 v2167
  let c1_i32_887 : BitVec 32 := 1#32
  let arg18 : BitVec 32 := Scf.iv v2168 c1_i32_887 k0_t5
  let v2171 : Index := Scalar.indexCast arg18
  let c0_888 : Index := 0#32
  let c0_889 : Index := 0#32
  ![v2171.toNat, 0, 0]
@[reducible] def k0_t6_loop (i : grid0.Coords) : Scf.Loop 32 :=
  let c0_i32_882 : BitVec 32 := 0#32
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let v2158 : BitVec 32 := Scalar.subi v1 c0_i32_882
  let c1_i32_883 : BitVec 32 := 1#32
  let v2160 : BitVec 32 := Scalar.divsi v2158 c1_i32_883
  let v2161 : BitVec 32 := Scalar.muli v2160 c1_i32_883
  let v2162 : BitVec 32 := Scalar.addi c0_i32_882 v2161
  let c1_i32_884 : BitVec 32 := 1#32
  ⟨c0_i32_882, v2162, c1_i32_884⟩
def k0_off113 (i : grid0.Coords) (k0_t6 : Fin (k0_t6_loop i).trips) : Fin 3 → Nat :=
  let c0_i32_882 : BitVec 32 := 0#32
  let c1_i32_884 : BitVec 32 := 1#32
  let arg18 : BitVec 32 := Scf.iv c0_i32_882 c1_i32_884 k0_t6
  let v2163 : Index := Scalar.indexCast arg18
  let c0_886 : Index := 0#32
  let c0_887 : Index := 0#32
  ![v2163.toNat, 0, 0]
@[reducible] def k0_t7_loop (i : grid0.Coords) : Scf.Loop 32 :=
  let c0_i32_882 : BitVec 32 := 0#32
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let v2158 : BitVec 32 := Scalar.subi v1 c0_i32_882
  let c1_i32_883 : BitVec 32 := 1#32
  let v2160 : BitVec 32 := Scalar.divsi v2158 c1_i32_883
  let v2161 : BitVec 32 := Scalar.muli v2160 c1_i32_883
  let v2162 : BitVec 32 := Scalar.addi c0_i32_882 v2161
  let v2159 : BitVec 32 := Scalar.addi c0_i32_882 v2158
  let c1_i32_885 : BitVec 32 := 1#32
  ⟨v2162, v2159, c1_i32_885⟩
def k0_off114 (i : grid0.Coords) (k0_t7 : Fin (k0_t7_loop i).trips) : Fin 3 → Nat :=
  let c0_i32_882 : BitVec 32 := 0#32
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let v2158 : BitVec 32 := Scalar.subi v1 c0_i32_882
  let c1_i32_883 : BitVec 32 := 1#32
  let v2160 : BitVec 32 := Scalar.divsi v2158 c1_i32_883
  let v2161 : BitVec 32 := Scalar.muli v2160 c1_i32_883
  let v2162 : BitVec 32 := Scalar.addi c0_i32_882 v2161
  let c1_i32_885 : BitVec 32 := 1#32
  let arg18 : BitVec 32 := Scf.iv v2162 c1_i32_885 k0_t7
  let v2163 : Index := Scalar.indexCast arg18
  let c0_886 : Index := 0#32
  let c0_887 : Index := 0#32
  ![v2163.toNat, 0, 0]
@[reducible] def k0_t8_loop (i : grid0.Coords) : Scf.Loop 32 :=
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_813 : BitVec 32 := 1#32
  ⟨c0_i32_811, v2061, c1_i32_813⟩
def k0_mult7 (i : grid0.Coords) (k0_t8 : Fin (k0_t8_loop i).trips) : BitVec 32 :=
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let c0_i32_882 : BitVec 32 := 0#32
  let v2157 : BitVec 32 := Scalar.addi v2156 c0_i32_882
  let c256_i32_883 : BitVec 32 := 256#32
  let v2158 : BitVec 32 := Scalar.muli v2157 c256_i32_883
  v2158
def k0_off115 (i : grid0.Coords) (k0_t8 : Fin (k0_t8_loop i).trips) (c0_i32_882 : BitVec 32) : Fin 3 → Nat :=
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2160 : Index := Scalar.indexCast v2157
  let c0_884 : Index := 0#32
  let c0_885 : Index := 0#32
  ![v2160.toNat, 0, 0]
def k0_off116 (i : grid0.Coords) (k0_t8 : Fin (k0_t8_loop i).trips) (c0_i32_882 : BitVec 32) : Fin 3 → Nat :=
  let c0_886 : Index := 0#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2163 : Index := Scalar.indexCast v2159
  let c0_887 : Index := 0#32
  ![0, v2163.toNat, 0]
def k0_off117 (i : grid0.Coords) (k0_t8 : Fin (k0_t8_loop i).trips) (c0_i32_882 : BitVec 32) : Fin 4 → Nat :=
  let c0_889 : Index := 0#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2168 : Index := Scalar.indexCast v2157
  let c0_890 : Index := 0#32
  let c0_891 : Index := 0#32
  ![0, v2168.toNat, 0, 0]
def k0_off118 (i : grid0.Coords) (k0_t8 : Fin (k0_t8_loop i).trips) (c0_i32_882 : BitVec 32) : Fin 4 → Nat :=
  let c1_901 : Index := 1#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2198 : Index := Scalar.indexCast v2157
  let c0_902 : Index := 0#32
  let c0_903 : Index := 0#32
  ![1, v2198.toNat, 0, 0]
def k0_off119 (i : grid0.Coords) (k0_t8 : Fin (k0_t8_loop i).trips) (c0_i32_882 : BitVec 32) : Fin 3 → Nat :=
  let c0_910 : Index := 0#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2223 : Index := Scalar.indexCast v2159
  let c128_911 : Index := 128#32
  ![0, v2223.toNat, 128]
def k0_off120 (i : grid0.Coords) (k0_t8 : Fin (k0_t8_loop i).trips) (c0_i32_882 : BitVec 32) : Fin 4 → Nat :=
  let c2_913 : Index := 2#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2228 : Index := Scalar.indexCast v2157
  let c0_914 : Index := 0#32
  let c0_915 : Index := 0#32
  ![2, v2228.toNat, 0, 0]
def k0_off121 (i : grid0.Coords) (k0_t8 : Fin (k0_t8_loop i).trips) (c0_i32_882 : BitVec 32) : Fin 4 → Nat :=
  let c3_925 : Index := 3#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2258 : Index := Scalar.indexCast v2157
  let c0_926 : Index := 0#32
  let c0_927 : Index := 0#32
  ![3, v2258.toNat, 0, 0]
def k0_off122 (i : grid0.Coords) (k0_t8 : Fin (k0_t8_loop i).trips) (c0_i32_882 : BitVec 32) : Fin 3 → Nat :=
  let c0_934 : Index := 0#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2283 : Index := Scalar.indexCast v2159
  let c256_935 : Index := 256#32
  ![0, v2283.toNat, 256]
def k0_off123 (i : grid0.Coords) (k0_t8 : Fin (k0_t8_loop i).trips) (c0_i32_882 : BitVec 32) : Fin 4 → Nat :=
  let c4_937 : Index := 4#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2288 : Index := Scalar.indexCast v2157
  let c0_938 : Index := 0#32
  let c0_939 : Index := 0#32
  ![4, v2288.toNat, 0, 0]
def k0_off124 (i : grid0.Coords) (k0_t8 : Fin (k0_t8_loop i).trips) (c0_i32_882 : BitVec 32) : Fin 4 → Nat :=
  let c5_949 : Index := 5#32
  let c0_i32_811 : BitVec 32 := 0#32
  let c1_i32_813 : BitVec 32 := 1#32
  let arg18 : BitVec 32 := Scf.iv c0_i32_811 c1_i32_813 k0_t8
  let c2_i32_881 : BitVec 32 := 2#32
  let v2156 : BitVec 32 := Scalar.muli arg18 c2_i32_881
  let v2157 : BitVec 32 := Scalar.addi v2156 c0_i32_882
  let v2318 : Index := Scalar.indexCast v2157
  let c0_950 : Index := 0#32
  let c0_951 : Index := 0#32
  ![5, v2318.toNat, 0, 0]
def k0_mult8 (i : grid0.Coords) (k0_t8 : Fin (k0_t8_loop i).trips) : BitVec 32 :=
  let c0_i32_811 : BitVec 32 := 0#32
  let c1_i32_813 : BitVec 32 := 1#32
  let arg18 : BitVec 32 := Scf.iv c0_i32_811 c1_i32_813 k0_t8
  let c2_i32_958 : BitVec 32 := 2#32
  let v2343 : BitVec 32 := Scalar.muli arg18 c2_i32_958
  let c1_i32_959 : BitVec 32 := 1#32
  let v2344 : BitVec 32 := Scalar.addi v2343 c1_i32_959
  let c256_i32_960 : BitVec 32 := 256#32
  let v2345 : BitVec 32 := Scalar.muli v2344 c256_i32_960
  v2345
@[reducible] def k0_t9_loop (i : grid0.Coords) : Scf.Loop 32 :=
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let v2058 : BitVec 32 := Scalar.addi c0_i32_811 v2057
  let c1_i32_814 : BitVec 32 := 1#32
  ⟨v2061, v2058, c1_i32_814⟩
def k0_mult9 (i : grid0.Coords) (k0_t9 : Fin (k0_t9_loop i).trips) : BitVec 32 :=
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let c0_i32_882 : BitVec 32 := 0#32
  let v2157 : BitVec 32 := Scalar.addi v2156 c0_i32_882
  let c256_i32_883 : BitVec 32 := 256#32
  let v2158 : BitVec 32 := Scalar.muli v2157 c256_i32_883
  v2158
def k0_off125 (i : grid0.Coords) (k0_t9 : Fin (k0_t9_loop i).trips) (c0_i32_882 : BitVec 32) : Fin 3 → Nat :=
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2160 : Index := Scalar.indexCast v2157
  let c0_884 : Index := 0#32
  let c0_885 : Index := 0#32
  ![v2160.toNat, 0, 0]
def k0_off126 (i : grid0.Coords) (k0_t9 : Fin (k0_t9_loop i).trips) (c0_i32_882 : BitVec 32) : Fin 3 → Nat :=
  let c0_886 : Index := 0#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2163 : Index := Scalar.indexCast v2159
  let c0_887 : Index := 0#32
  ![0, v2163.toNat, 0]
def k0_off127 (i : grid0.Coords) (k0_t9 : Fin (k0_t9_loop i).trips) (c0_i32_882 : BitVec 32) : Fin 4 → Nat :=
  let c0_889 : Index := 0#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2168 : Index := Scalar.indexCast v2157
  let c0_890 : Index := 0#32
  let c0_891 : Index := 0#32
  ![0, v2168.toNat, 0, 0]
def k0_off128 (i : grid0.Coords) (k0_t9 : Fin (k0_t9_loop i).trips) (c0_i32_882 : BitVec 32) : Fin 4 → Nat :=
  let c1_901 : Index := 1#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2198 : Index := Scalar.indexCast v2157
  let c0_902 : Index := 0#32
  let c0_903 : Index := 0#32
  ![1, v2198.toNat, 0, 0]
def k0_off129 (i : grid0.Coords) (k0_t9 : Fin (k0_t9_loop i).trips) (c0_i32_882 : BitVec 32) : Fin 3 → Nat :=
  let c0_910 : Index := 0#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2223 : Index := Scalar.indexCast v2159
  let c128_911 : Index := 128#32
  ![0, v2223.toNat, 128]
def k0_off130 (i : grid0.Coords) (k0_t9 : Fin (k0_t9_loop i).trips) (c0_i32_882 : BitVec 32) : Fin 4 → Nat :=
  let c2_913 : Index := 2#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2228 : Index := Scalar.indexCast v2157
  let c0_914 : Index := 0#32
  let c0_915 : Index := 0#32
  ![2, v2228.toNat, 0, 0]
def k0_off131 (i : grid0.Coords) (k0_t9 : Fin (k0_t9_loop i).trips) (c0_i32_882 : BitVec 32) : Fin 4 → Nat :=
  let c3_925 : Index := 3#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2258 : Index := Scalar.indexCast v2157
  let c0_926 : Index := 0#32
  let c0_927 : Index := 0#32
  ![3, v2258.toNat, 0, 0]
def k0_off132 (i : grid0.Coords) (k0_t9 : Fin (k0_t9_loop i).trips) (c0_i32_882 : BitVec 32) : Fin 3 → Nat :=
  let c0_934 : Index := 0#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let c256_i32_883 : BitVec 32 := 256#32
  let v2158 : BitVec 32 := Scalar.muli v2157 c256_i32_883
  let v2159 : BitVec 32 := v2158
  let v2283 : Index := Scalar.indexCast v2159
  let c256_935 : Index := 256#32
  ![0, v2283.toNat, 256]
def k0_off133 (i : grid0.Coords) (k0_t9 : Fin (k0_t9_loop i).trips) (c0_i32_882 : BitVec 32) : Fin 4 → Nat :=
  let c4_937 : Index := 4#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2288 : Index := Scalar.indexCast v2157
  let c0_938 : Index := 0#32
  let c0_939 : Index := 0#32
  ![4, v2288.toNat, 0, 0]
def k0_off134 (i : grid0.Coords) (k0_t9 : Fin (k0_t9_loop i).trips) (c0_i32_882 : BitVec 32) : Fin 4 → Nat :=
  let c5_949 : Index := 5#32
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_881 : BitVec 32 := 2#32
  let v2156 : BitVec 32 := Scalar.muli arg18 c2_i32_881
  let v2157 : BitVec 32 := Scalar.addi v2156 c0_i32_882
  let v2318 : Index := Scalar.indexCast v2157
  let c0_950 : Index := 0#32
  let c0_951 : Index := 0#32
  ![5, v2318.toNat, 0, 0]
def k0_mult10 (i : grid0.Coords) (k0_t9 : Fin (k0_t9_loop i).trips) : BitVec 32 :=
  let c0_i32_811 : BitVec 32 := 0#32
  let arg1 : BitVec 32 := BitVec.ofNat 32 (i 1).val
  let c1_i32_809 : BitVec 32 := 1#32
  let v2056 : BitVec 32 := Scalar.addi arg1 c1_i32_809
  let v2057 : BitVec 32 := Scalar.subi v2056 c0_i32_811
  let c1_i32_812 : BitVec 32 := 1#32
  let v2059 : BitVec 32 := Scalar.divsi v2057 c1_i32_812
  let v2060 : BitVec 32 := Scalar.muli v2059 c1_i32_812
  let v2061 : BitVec 32 := Scalar.addi c0_i32_811 v2060
  let c1_i32_814 : BitVec 32 := 1#32
  let arg18 : BitVec 32 := Scf.iv v2061 c1_i32_814 k0_t9
  let c2_i32_958 : BitVec 32 := 2#32
  let v2343 : BitVec 32 := Scalar.muli arg18 c2_i32_958
  let c1_i32_959 : BitVec 32 := 1#32
  let v2344 : BitVec 32 := Scalar.addi v2343 c1_i32_959
  let c256_i32_960 : BitVec 32 := 256#32
  let v2345 : BitVec 32 := Scalar.muli v2344 c256_i32_960
  v2345
@[reducible] def k0_t10_loop (i : grid0.Coords) : Scf.Loop 32 :=
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_844 : BitVec 32 := 1#32
  ⟨c0_i32_842, v2092, c1_i32_844⟩
def k0_off135 (i : grid0.Coords) (k0_t10 : Fin (k0_t10_loop i).trips) (c0_i32_882 : BitVec 32) : Fin 4 → Nat :=
  let c0_883 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2158 : Index := Scalar.indexCast v2157
  let c0_884 : Index := 0#32
  let c0_885 : Index := 0#32
  ![0, v2158.toNat, 0, 0]
def k0_off136 (i : grid0.Coords) (k0_t10 : Fin (k0_t10_loop i).trips) (c0_i32_882 : BitVec 32) : Fin 4 → Nat :=
  let c0_886 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2162 : Index := Scalar.indexCast v2157
  let c0_887 : Index := 0#32
  let c0_888 : Index := 0#32
  ![0, v2162.toNat, 0, 0]
def k0_off137 (i : grid0.Coords) (k0_t10 : Fin (k0_t10_loop i).trips) (c0_i32_882 : BitVec 32) : Fin 4 → Nat :=
  let c0_896 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2176 : Index := Scalar.indexCast v2157
  let c64_897 : Index := 64#32
  let c0_898 : Index := 0#32
  ![0, v2176.toNat, 64, 0]
def k0_off138 (i : grid0.Coords) (k0_t10 : Fin (k0_t10_loop i).trips) (c0_i32_882 : BitVec 32) : Fin 4 → Nat :=
  let c1_899 : Index := 1#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2180 : Index := Scalar.indexCast v2157
  let c0_900 : Index := 0#32
  let c0_901 : Index := 0#32
  ![1, v2180.toNat, 0, 0]
def k0_off139 (i : grid0.Coords) (k0_t10 : Fin (k0_t10_loop i).trips) (c0_i32_882 : BitVec 32) : Fin 4 → Nat :=
  let c0_909 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2194 : Index := Scalar.indexCast v2157
  let c128_910 : Index := 128#32
  let c0_911 : Index := 0#32
  ![0, v2194.toNat, 128, 0]
def k0_off140 (i : grid0.Coords) (k0_t10 : Fin (k0_t10_loop i).trips) (c0_i32_882 : BitVec 32) : Fin 4 → Nat :=
  let c2_912 : Index := 2#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2198 : Index := Scalar.indexCast v2157
  let c0_913 : Index := 0#32
  let c0_914 : Index := 0#32
  ![2, v2198.toNat, 0, 0]
def k0_off141 (i : grid0.Coords) (k0_t10 : Fin (k0_t10_loop i).trips) (c0_i32_882 : BitVec 32) : Fin 4 → Nat :=
  let c0_922 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2212 : Index := Scalar.indexCast v2157
  let c192_923 : Index := 192#32
  let c0_924 : Index := 0#32
  ![0, v2212.toNat, 192, 0]
def k0_off142 (i : grid0.Coords) (k0_t10 : Fin (k0_t10_loop i).trips) (c0_i32_882 : BitVec 32) : Fin 4 → Nat :=
  let c3_925 : Index := 3#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2216 : Index := Scalar.indexCast v2157
  let c0_926 : Index := 0#32
  let c0_927 : Index := 0#32
  ![3, v2216.toNat, 0, 0]
def k0_off143 (i : grid0.Coords) (k0_t10 : Fin (k0_t10_loop i).trips) (c0_i32_882 : BitVec 32) : Fin 4 → Nat :=
  let c0_935 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2230 : Index := Scalar.indexCast v2157
  let c256_936 : Index := 256#32
  let c0_937 : Index := 0#32
  ![0, v2230.toNat, 256, 0]
def k0_off144 (i : grid0.Coords) (k0_t10 : Fin (k0_t10_loop i).trips) (c0_i32_882 : BitVec 32) : Fin 4 → Nat :=
  let c4_938 : Index := 4#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2234 : Index := Scalar.indexCast v2157
  let c0_939 : Index := 0#32
  let c0_940 : Index := 0#32
  ![4, v2234.toNat, 0, 0]
def k0_off145 (i : grid0.Coords) (k0_t10 : Fin (k0_t10_loop i).trips) (c0_i32_882 : BitVec 32) : Fin 4 → Nat :=
  let c0_948 : Index := 0#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2248 : Index := Scalar.indexCast v2157
  let c320_949 : Index := 320#32
  let c0_950 : Index := 0#32
  ![0, v2248.toNat, 320, 0]
def k0_off146 (i : grid0.Coords) (k0_t10 : Fin (k0_t10_loop i).trips) (c0_i32_882 : BitVec 32) : Fin 4 → Nat :=
  let c5_951 : Index := 5#32
  let c0_i32_842 : BitVec 32 := 0#32
  let c1_i32_844 : BitVec 32 := 1#32
  let arg18 : BitVec 32 := Scf.iv c0_i32_842 c1_i32_844 k0_t10
  let c2_i32_881 : BitVec 32 := 2#32
  let v2156 : BitVec 32 := Scalar.muli arg18 c2_i32_881
  let v2157 : BitVec 32 := Scalar.addi v2156 c0_i32_882
  let v2252 : Index := Scalar.indexCast v2157
  let c0_952 : Index := 0#32
  let c0_953 : Index := 0#32
  ![5, v2252.toNat, 0, 0]
@[reducible] def k0_t11_loop (i : grid0.Coords) : Scf.Loop 32 :=
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let v2089 : BitVec 32 := Scalar.addi c0_i32_842 v2088
  let c1_i32_845 : BitVec 32 := 1#32
  ⟨v2092, v2089, c1_i32_845⟩
def k0_off147 (i : grid0.Coords) (k0_t11 : Fin (k0_t11_loop i).trips) (c0_i32_882 : BitVec 32) : Fin 4 → Nat :=
  let c0_883 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2158 : Index := Scalar.indexCast v2157
  let c0_884 : Index := 0#32
  let c0_885 : Index := 0#32
  ![0, v2158.toNat, 0, 0]
def k0_off148 (i : grid0.Coords) (k0_t11 : Fin (k0_t11_loop i).trips) (c0_i32_882 : BitVec 32) : Fin 4 → Nat :=
  let c0_886 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2162 : Index := Scalar.indexCast v2157
  let c0_887 : Index := 0#32
  let c0_888 : Index := 0#32
  ![0, v2162.toNat, 0, 0]
def k0_off149 (i : grid0.Coords) (k0_t11 : Fin (k0_t11_loop i).trips) (c0_i32_882 : BitVec 32) : Fin 4 → Nat :=
  let c0_896 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2176 : Index := Scalar.indexCast v2157
  let c64_897 : Index := 64#32
  let c0_898 : Index := 0#32
  ![0, v2176.toNat, 64, 0]
def k0_off150 (i : grid0.Coords) (k0_t11 : Fin (k0_t11_loop i).trips) (c0_i32_882 : BitVec 32) : Fin 4 → Nat :=
  let c1_899 : Index := 1#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2180 : Index := Scalar.indexCast v2157
  let c0_900 : Index := 0#32
  let c0_901 : Index := 0#32
  ![1, v2180.toNat, 0, 0]
def k0_off151 (i : grid0.Coords) (k0_t11 : Fin (k0_t11_loop i).trips) (c0_i32_882 : BitVec 32) : Fin 4 → Nat :=
  let c0_909 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2194 : Index := Scalar.indexCast v2157
  let c128_910 : Index := 128#32
  let c0_911 : Index := 0#32
  ![0, v2194.toNat, 128, 0]
def k0_off152 (i : grid0.Coords) (k0_t11 : Fin (k0_t11_loop i).trips) (c0_i32_882 : BitVec 32) : Fin 4 → Nat :=
  let c2_912 : Index := 2#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2198 : Index := Scalar.indexCast v2157
  let c0_913 : Index := 0#32
  let c0_914 : Index := 0#32
  ![2, v2198.toNat, 0, 0]
def k0_off153 (i : grid0.Coords) (k0_t11 : Fin (k0_t11_loop i).trips) (c0_i32_882 : BitVec 32) : Fin 4 → Nat :=
  let c0_922 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2212 : Index := Scalar.indexCast v2157
  let c192_923 : Index := 192#32
  let c0_924 : Index := 0#32
  ![0, v2212.toNat, 192, 0]
def k0_off154 (i : grid0.Coords) (k0_t11 : Fin (k0_t11_loop i).trips) (c0_i32_882 : BitVec 32) : Fin 4 → Nat :=
  let c3_925 : Index := 3#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2216 : Index := Scalar.indexCast v2157
  let c0_926 : Index := 0#32
  let c0_927 : Index := 0#32
  ![3, v2216.toNat, 0, 0]
def k0_off155 (i : grid0.Coords) (k0_t11 : Fin (k0_t11_loop i).trips) (c0_i32_882 : BitVec 32) : Fin 4 → Nat :=
  let c0_935 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2230 : Index := Scalar.indexCast v2157
  let c256_936 : Index := 256#32
  let c0_937 : Index := 0#32
  ![0, v2230.toNat, 256, 0]
def k0_off156 (i : grid0.Coords) (k0_t11 : Fin (k0_t11_loop i).trips) (c0_i32_882 : BitVec 32) : Fin 4 → Nat :=
  let c4_938 : Index := 4#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2234 : Index := Scalar.indexCast v2157
  let c0_939 : Index := 0#32
  let c0_940 : Index := 0#32
  ![4, v2234.toNat, 0, 0]
def k0_off157 (i : grid0.Coords) (k0_t11 : Fin (k0_t11_loop i).trips) (c0_i32_882 : BitVec 32) : Fin 4 → Nat :=
  let c0_948 : Index := 0#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2248 : Index := Scalar.indexCast v2157
  let c320_949 : Index := 320#32
  let c0_950 : Index := 0#32
  ![0, v2248.toNat, 320, 0]
def k0_off158 (i : grid0.Coords) (k0_t11 : Fin (k0_t11_loop i).trips) (c0_i32_882 : BitVec 32) : Fin 4 → Nat :=
  let c5_951 : Index := 5#32
  let c0_i32_842 : BitVec 32 := 0#32
  let arg1 : BitVec 32 := BitVec.ofNat 32 (i 1).val
  let c1_i32_840 : BitVec 32 := 1#32
  let v2087 : BitVec 32 := Scalar.addi arg1 c1_i32_840
  let v2088 : BitVec 32 := Scalar.subi v2087 c0_i32_842
  let c1_i32_843 : BitVec 32 := 1#32
  let v2090 : BitVec 32 := Scalar.divsi v2088 c1_i32_843
  let v2091 : BitVec 32 := Scalar.muli v2090 c1_i32_843
  let v2092 : BitVec 32 := Scalar.addi c0_i32_842 v2091
  let c1_i32_845 : BitVec 32 := 1#32
  let arg18 : BitVec 32 := Scf.iv v2092 c1_i32_845 k0_t11
  let c2_i32_881 : BitVec 32 := 2#32
  let v2156 : BitVec 32 := Scalar.muli arg18 c2_i32_881
  let v2157 : BitVec 32 := Scalar.addi v2156 c0_i32_882
  let v2252 : Index := Scalar.indexCast v2157
  let c0_952 : Index := 0#32
  let c0_953 : Index := 0#32
  ![5, v2252.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Out.lean ====
abbrev S65536x1024 : Shape := ⟨2, ![65536, 1024]⟩
abbrev S65536x384 : Shape := ⟨2, ![65536, 384]⟩
abbrev S65536x256 : Shape := ⟨2, ![65536, 256]⟩
abbrev S1024x1024 : Shape := ⟨2, ![1024, 1024]⟩
abbrev S384x1024 : Shape := ⟨2, ![384, 1024]⟩
abbrev S256x1024 : Shape := ⟨2, ![256, 1024]⟩
abbrev S4x96x1024 : Shape := ⟨3, ![4, 96, 1024]⟩
abbrev S_ : Shape := ⟨0, ![]⟩
abbrev S4x128x1024 : Shape := ⟨3, ![4, 128, 1024]⟩
abbrev S512x1024 : Shape := ⟨2, ![512, 1024]⟩
abbrev S65536x4x96 : Shape := ⟨3, ![65536, 4, 96]⟩
abbrev S65536x4x128 : Shape := ⟨3, ![65536, 4, 128]⟩
abbrev S65536x512 : Shape := ⟨2, ![65536, 512]⟩
abbrev S512x384 : Shape := ⟨2, ![512, 384]⟩
abbrev S512x256 : Shape := ⟨2, ![512, 256]⟩
abbrev S512x512 : Shape := ⟨2, ![512, 512]⟩

abbrev nBuf : Space → Nat
  | .hbm => 25
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x384, .f32⟩
  | .hbm, ⟨2, _⟩ => ⟨S65536x256, .f32⟩
  | .hbm, ⟨3, _⟩ => ⟨S65536x384, .f32⟩
  | .hbm, ⟨4, _⟩ => ⟨S1024x1024, .f32⟩
  | .hbm, ⟨5, _⟩ => ⟨S384x1024, .f32⟩
  | .hbm, ⟨6, _⟩ => ⟨S384x1024, .bf16⟩
  | .hbm, ⟨7, _⟩ => ⟨S256x1024, .f32⟩
  | .hbm, ⟨8, _⟩ => ⟨S256x1024, .bf16⟩
  | .hbm, ⟨9, _⟩ => ⟨S384x1024, .f32⟩
  | .hbm, ⟨10, _⟩ => ⟨S4x96x1024, .f32⟩
  | .hbm, ⟨11, _⟩ => ⟨S_, .i32⟩
  | .hbm, ⟨12, _⟩ => ⟨S_, .f32⟩
  | .hbm, ⟨13, _⟩ => ⟨S4x128x1024, .f32⟩
  | .hbm, ⟨14, _⟩ => ⟨S512x1024, .f32⟩
  | .hbm, ⟨15, _⟩ => ⟨S512x1024, .bf16⟩
  | .hbm, ⟨16, _⟩ => ⟨S65536x4x96, .f32⟩
  | .hbm, ⟨17, _⟩ => ⟨S_, .i32⟩
  | .hbm, ⟨18, _⟩ => ⟨S_, .f32⟩
  | .hbm, ⟨19, _⟩ => ⟨S65536x4x128, .f32⟩
  | .hbm, ⟨20, _⟩ => ⟨S65536x512, .f32⟩
  | .hbm, ⟨21, _⟩ => ⟨S65536x384, .bf16⟩
  | .hbm, ⟨22, _⟩ => ⟨S65536x256, .bf16⟩
  | .hbm, ⟨23, _⟩ => ⟨S65536x512, .bf16⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S384x1024, .bf16⟩
  | .local _ .vmem, ⟨9, _⟩ => ⟨S256x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S65536x1024 : Shape := ⟨2, ![65536, 1024]⟩
abbrev S65536x384 : Shape := ⟨2, ![65536, 384]⟩
abbrev S65536x256 : Shape := ⟨2, ![65536, 256]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x384, .f32⟩
  | .hbm, ⟨2, _⟩ => ⟨S65536x256, .f32⟩
  | .hbm, ⟨3, _⟩ => ⟨S65536x384, .f32⟩
  | .hbm, ⟨4, _⟩ => ⟨S1024x1024, .f32⟩
  | .hbm, ⟨5, _⟩ => ⟨S65536x1024, .f32⟩
  | .hbm, ⟨6, _⟩ => ⟨S65536x1024, .f32⟩
  | .hbm, ⟨7, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x3540 : Shape := ⟨2, ![1024, 3540]⟩
abbrev S64 : Shape := ⟨1, ![64]⟩
abbrev S1024x384 : Shape := ⟨2, ![1024, 384]⟩
abbrev S1024x256 : Shape := ⟨2, ![1024, 256]⟩
abbrev S1024x64 : Shape := ⟨2, ![1024, 64]⟩
abbrev S1024x4 : Shape := ⟨2, ![1024, 4]⟩
abbrev S1024x192 : Shape := ⟨2, ![1024, 192]⟩
abbrev S1024x16 : Shape := ⟨2, ![1024, 16]⟩
abbrev S1024x128 : Shape := ⟨2, ![1024, 128]⟩
abbrev S1024x4x48 : Shape := ⟨3, ![1024, 4, 48]⟩
abbrev S_ : Shape := ⟨0, ![]⟩
abbrev S1024x4x64 : Shape := ⟨3, ![1024, 4, 64]⟩
abbrev S1024x4x96 : Shape := ⟨3, ![1024, 4, 96]⟩
abbrev S1024x4x128 : Shape := ⟨3, ![1024, 4, 128]⟩
abbrev S1024x512 : Shape := ⟨2, ![1024, 512]⟩
abbrev S1024x3712 : Shape := ⟨2, ![1024, 3712]⟩
abbrev S4x1024 : Shape := ⟨2, ![4, 1024]⟩
abbrev S8x1024 : Shape := ⟨2, ![8, 1024]⟩
abbrev S384x1024 : Shape := ⟨2, ![384, 1024]⟩
abbrev S392x1024 : Shape := ⟨2, ![392, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S384x1 : Shape := ⟨2, ![384, 1]⟩
abbrev S384x384 : Shape := ⟨2, ![384, 384]⟩
abbrev S1x1024 : Shape := ⟨2, ![1, 1024]⟩
abbrev S65536x384 : Shape := ⟨2, ![65536, 384]⟩
abbrev S65536x256 : Shape := ⟨2, ![65536, 256]⟩
abbrev S65536x128 : Shape := ⟨2, ![65536, 128]⟩
abbrev S65536x512 : Shape := ⟨2, ![65536, 512]⟩
abbrev S256x384x256 : Shape := ⟨3, ![256, 384, 256]⟩
abbrev S8x65536 : Shape := ⟨2, ![8, 65536]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S2x384x256 : Shape := ⟨3, ![2, 384, 256]⟩
abbrev S8x512 : Shape := ⟨2, ![8, 512]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x1024 : Shape := ⟨2, ![1024, 1024]⟩
abbrev S392x512 : Shape := ⟨2, ![392, 512]⟩
abbrev S384x256 : Shape := ⟨2, ![384, 256]⟩
abbrev S1x384x256 : Shape := ⟨3, ![1, 384, 256]⟩

abbrev nBuf : Space → Nat
  | .hbm => 111
  | .vmem => 36
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3540, .f32⟩
  | .hbm, ⟨3, _⟩ => ⟨S64, .f32⟩
  | .hbm, ⟨4, _⟩ => ⟨S64, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x256, .f32⟩
  | .hbm, ⟨10, _⟩ => ⟨S1024x64, .f32⟩
  | .hbm, ⟨11, _⟩ => ⟨S1024x4, .f32⟩
  | .hbm, ⟨12, _⟩ => ⟨S1024x256, .f32⟩
  | .hbm, ⟨13, _⟩ => ⟨S1024x256, .f32⟩
  | .hbm, ⟨14, _⟩ => ⟨S1024x192, .f32⟩
  | .hbm, ⟨15, _⟩ => ⟨S1024x192, .f32⟩
  | .hbm, ⟨16, _⟩ => ⟨S1024x384, .f32⟩
  | .hbm, ⟨17, _⟩ => ⟨S1024x16, .f32⟩
  | .hbm, ⟨18, _⟩ => ⟨S1024x384, .f32⟩
  | .hbm, ⟨19, _⟩ => ⟨S1024x128, .f32⟩
  | .hbm, ⟨20, _⟩ => ⟨S1024x4x48, .f32⟩
  | .hbm, ⟨21, _⟩ => ⟨S_, .i32⟩
  | .hbm, ⟨22, _⟩ => ⟨S_, .f32⟩
  | .hbm, ⟨23, _⟩ => ⟨S1024x4x64, .f32⟩
  | .hbm, ⟨24, _⟩ => ⟨S1024x256, .f32⟩
  | .hbm, ⟨25, _⟩ => ⟨S1024x4x48, .f32⟩
  | .hbm, ⟨26, _⟩ => ⟨S_, .i32⟩
  | .hbm, ⟨27, _⟩ => ⟨S_, .f32⟩
  | .hbm, ⟨28, _⟩ => ⟨S1024x4x64, .f32⟩
  | .hbm, ⟨29, _⟩ => ⟨S1024x256, .f32⟩
  | .hbm, ⟨30, _⟩ => ⟨S1024x4x96, .f32⟩
  | .hbm, ⟨31, _⟩ => ⟨S_, .i32⟩
  | .hbm, ⟨32, _⟩ => ⟨S_, .f32⟩
  | .hbm, ⟨33, _⟩ => ⟨S1024x4x128, .f32⟩
  | .hbm, ⟨34, _⟩ => ⟨S1024x512, .f32⟩
  | .hbm, ⟨35, _⟩ => ⟨S1024x4x96, .f32⟩
  | .hbm, ⟨36, _⟩ => ⟨S_, .i32⟩
  | .hbm, ⟨37, _⟩ => ⟨S_, .f32⟩
  | .hbm, ⟨38, _⟩ => ⟨S1024x4x128, .f32⟩
  | .hbm, ⟨39, _⟩ => ⟨S1024x512, .f32⟩
  | .hbm, ⟨40, _⟩ => ⟨S_, .i32⟩
  | .hbm, ⟨41, _⟩ => ⟨S_, .f32⟩
  | .hbm, ⟨42, _⟩ => ⟨S1024x128, .f32⟩
  | .hbm, ⟨43, _⟩ => ⟨S1024x3712, .f32⟩
  | .hbm, ⟨44, _⟩ => ⟨S1024x3712, .bf16⟩
  | .hbm, ⟨45, _⟩ => ⟨S4x1024, .f32⟩
  | .hbm, ⟨46, _⟩ => ⟨S_, .f32⟩
  | .hbm, ⟨47, _⟩ => ⟨S4x1024, .f32⟩
  | .hbm, ⟨48, _⟩ => ⟨S4x1024, .f32⟩
  | .hbm, ⟨49, _⟩ => ⟨S_, .i32⟩
  | .hbm, ⟨50, _⟩ => ⟨S_, .f32⟩
  | .hbm, ⟨51, _⟩ => ⟨S8x1024, .f32⟩
  | .hbm, ⟨52, _⟩ => ⟨S384x1024, .f32⟩
  | .hbm, ⟨53, _⟩ => ⟨S392x1024, .f32⟩
  | .hbm, ⟨54, _⟩ => ⟨S392x1024, .bf16⟩
  | .hbm, ⟨55, _⟩ => ⟨S1x64, .f32⟩
  | .hbm, ⟨56, _⟩ => ⟨S6x64, .f32⟩
  | .hbm, ⟨57, _⟩ => ⟨S384, .f32⟩
  | .hbm, ⟨58, _⟩ => ⟨S_, .f32⟩
  | .hbm, ⟨59, _⟩ => ⟨S384, .f32⟩
  | .hbm, ⟨60, _⟩ => ⟨S384, .f32⟩
  | .hbm, ⟨61, _⟩ => ⟨S1x384, .f32⟩
  | .hbm, ⟨62, _⟩ => ⟨S1x64, .f32⟩
  | .hbm, ⟨63, _⟩ => ⟨S6x64, .f32⟩
  | .hbm, ⟨64, _⟩ => ⟨S384, .f32⟩
  | .hbm, ⟨65, _⟩ => ⟨S1x384, .f32⟩
  | .hbm, ⟨66, _⟩ => ⟨S384, .i32⟩
  | .hbm, ⟨67, _⟩ => ⟨S_, .i32⟩
  | .hbm, ⟨68, _⟩ => ⟨S_, .i32⟩
  | .hbm, ⟨69, _⟩ => ⟨S384, .i32⟩
  | .hbm, ⟨70, _⟩ => ⟨S384, .i32⟩
  | .hbm, ⟨71, _⟩ => ⟨S384, .i32⟩
  | .hbm, ⟨72, _⟩ => ⟨S_, .i32⟩
  | .hbm, ⟨73, _⟩ => ⟨S384, .i32⟩
  | .hbm, ⟨74, _⟩ => ⟨S384, .i1⟩
  | .hbm, ⟨75, _⟩ => ⟨S384, .i32⟩
  | .hbm, ⟨76, _⟩ => ⟨S384, .i32⟩
  | .hbm, ⟨77, _⟩ => ⟨S_, .i32⟩
  | .hbm, ⟨78, _⟩ => ⟨S384, .i32⟩
  | .hbm, ⟨79, _⟩ => ⟨S384, .i1⟩
  | .hbm, ⟨80, _⟩ => ⟨S384, .i1⟩
  | .hbm, ⟨81, _⟩ => ⟨S_, .i32⟩
  | .hbm, ⟨82, _⟩ => ⟨S384, .i32⟩
  | .hbm, ⟨83, _⟩ => ⟨S384, .i32⟩
  | .hbm, ⟨84, _⟩ => ⟨S384, .i32⟩
  | .hbm, ⟨85, _⟩ => ⟨S384x1, .i32⟩
  | .hbm, ⟨86, _⟩ => ⟨S1x384, .i32⟩
  | .hbm, ⟨87, _⟩ => ⟨S384x384, .i32⟩
  | .hbm, ⟨88, _⟩ => ⟨S384x384, .i32⟩
  | .hbm, ⟨89, _⟩ => ⟨S384x384, .i1⟩
  | .hbm, ⟨90, _⟩ => ⟨S_, .f32⟩
  | .hbm, ⟨91, _⟩ => ⟨S_, .f32⟩
  | .hbm, ⟨92, _⟩ => ⟨S384x384, .f32⟩
  | .hbm, ⟨93, _⟩ => ⟨S384x384, .f32⟩
  | .hbm, ⟨94, _⟩ => ⟨S384x384, .f32⟩
  | .hbm, ⟨95, _⟩ => ⟨S384x384, .bf16⟩
  | .hbm, ⟨96, _⟩ => ⟨S1x1024, .f32⟩
  | .hbm, ⟨97, _⟩ => ⟨S65536x384, .bf16⟩
  | .hbm, ⟨98, _⟩ => ⟨S65536x384, .bf16⟩
  | .hbm, ⟨99, _⟩ => ⟨S65536x384, .f32⟩
  | .hbm, ⟨100, _⟩ => ⟨S65536x256, .bf16⟩
  | .hbm, ⟨101, _⟩ => ⟨S65536x128, .bf16⟩
  | .hbm, ⟨102, _⟩ => ⟨S65536x256, .f32⟩
  | .hbm, ⟨103, _⟩ => ⟨S65536x256, .f32⟩
  | .hbm, ⟨104, _⟩ => ⟨S65536x256, .f32⟩
  | .hbm, ⟨105, _⟩ => ⟨S65536x256, .f32⟩
  | .hbm, ⟨106, _⟩ => ⟨S65536x512, .bf16⟩
  | .hbm, ⟨107, _⟩ => ⟨S65536x512, .f32⟩
  | .hbm, ⟨108, _⟩ => ⟨S65536x128, .f32⟩
  | .hbm, ⟨109, _⟩ => ⟨S256x384x256, .bf16⟩
  | .hbm, ⟨110, _⟩ => ⟨S8x65536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S392x1024, .bf16⟩
  | .local _ .vmem, ⟨5, _⟩ => ⟨S1x384, .f32⟩
  | .local _ .vmem, ⟨6, _⟩ => ⟨S1x384, .f32⟩
  | .local _ .vmem, ⟨7, _⟩ => ⟨S384x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .f32⟩
  | .local _ .vmem, ⟨13, _⟩ => ⟨S512x384, .f32⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x512, .bf16⟩
  | .local _ .vmem, ⟨27, _⟩ => ⟨S512x512, .bf16⟩
  | .local _ .vmem, ⟨28, _⟩ => ⟨S512x512, .f32⟩
  | .local _ .vmem, ⟨29, _⟩ => ⟨S512x512, .f32⟩
  | .local _ .vmem, ⟨30, _⟩ => ⟨S512x128, .f32⟩
  | .local _ .vmem, ⟨31, _⟩ => ⟨S512x128, .f32⟩
  | .local _ .vmem, ⟨32, _⟩ => ⟨S2x384x256, .bf16⟩
  | .local _ .vmem, ⟨33, _⟩ => ⟨S2x384x256, .bf16⟩
  | .local _ .vmem, ⟨34, _⟩ => ⟨S8x512, .f32⟩
  | .local _ .vmem, ⟨35, _⟩ => ⟨S8x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_call1_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_call2_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_call3_v0 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call4_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_call5_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_call6_v0 : Ref sig .tc := ⟨.hbm, 68, rfl⟩
abbrev main_call6_v1 : Ref sig .tc := ⟨.hbm, 69, rfl⟩
abbrev main_call6_v2 : Ref sig .tc := ⟨.hbm, 70, rfl⟩
abbrev main_call6_v3 : Ref sig .tc := ⟨.hbm, 71, rfl⟩
abbrev main_call6_v4 : Ref sig .tc := ⟨.hbm, 72, rfl⟩
abbrev main_call6_v5 : Ref sig .tc := ⟨.hbm, 73, rfl⟩
abbrev main_call6_v6 : Ref sig .tc := ⟨.hbm, 74, rfl⟩
abbrev main_call6_v7 : Ref sig .tc := ⟨.hbm, 75, rfl⟩
abbrev main_call6_v8 : Ref sig .tc := ⟨.hbm, 76, rfl⟩
abbrev main_call6_c : Ref sig .tc := ⟨.hbm, 77, rfl⟩
abbrev main_call6_v9 : Ref sig .tc := ⟨.hbm, 78, rfl⟩
abbrev main_call6_v10 : Ref sig .tc := ⟨.hbm, 79, rfl⟩
abbrev main_call6_v11 : Ref sig .tc := ⟨.hbm, 80, rfl⟩
abbrev main_call6_c_0 : Ref sig .tc := ⟨.hbm, 81, rfl⟩
abbrev main_call6_v12 : Ref sig .tc := ⟨.hbm, 82, rfl⟩
abbrev main_call6_v13 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_7 : Ref sig .tc := ⟨.hbm, 90, rfl⟩
abbrev main_cst_8 : Ref sig .tc := ⟨.hbm, 91, rfl⟩
abbrev main_call7_v0 : Ref sig .tc := ⟨.hbm, 92, rfl⟩
abbrev main_call7_v1 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57_0 : Ref sig .tc := ⟨.hbm, 97, rfl⟩
abbrev main_v57_1 : Ref sig .tc := ⟨.hbm, 98, rfl⟩
abbrev main_v57_2 : Ref sig .tc := ⟨.hbm, 99, rfl⟩
abbrev main_v57_3 : Ref sig .tc := ⟨.hbm, 100, rfl⟩
abbrev main_v57_4 : Ref sig .tc := ⟨.hbm, 101, rfl⟩
abbrev main_v57_5 : Ref sig .tc := ⟨.hbm, 102, rfl⟩
abbrev main_v57_6 : Ref sig .tc := ⟨.hbm, 103, rfl⟩
abbrev main_v57_7 : Ref sig .tc := ⟨.hbm, 104, rfl⟩
abbrev main_v57_8 : Ref sig .tc := ⟨.hbm, 105, rfl⟩
abbrev main_v57_9 : Ref sig .tc := ⟨.hbm, 106, rfl⟩
abbrev main_v57_10 : Ref sig .tc := ⟨.hbm, 107, rfl⟩
abbrev main_v57_11 : Ref sig .tc := ⟨.hbm, 108, rfl⟩
abbrev main_v57_12 : Ref sig .tc := ⟨.hbm, 109, rfl⟩
abbrev main_v57_13 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S392x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x384x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjRefIdeal.lean ====
abbrev S65536x1024 : Shape := ⟨2, ![65536, 1024]⟩
abbrev S1024 : Shape := ⟨1, ![1024]⟩
abbrev S1024x3540 : Shape := ⟨2, ![1024, 3540]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3540 : Shape := ⟨2, ![65536, 3540]⟩
abbrev S65536x384 : Shape := ⟨2, ![65536, 384]⟩
abbrev S65536x256 : Shape := ⟨2, ![65536, 256]⟩
abbrev S65536x64 : Shape := ⟨2, ![65536, 64]⟩
abbrev S65536x4 : Shape := ⟨2, ![65536, 4]⟩
abbrev S65536x192 : Shape := ⟨2, ![65536, 192]⟩
abbrev S65536x16 : Shape := ⟨2, ![65536, 16]⟩
abbrev S65536x6x64 : Shape := ⟨3, ![65536, 6, 64]⟩
abbrev S65536x6 : Shape := ⟨2, ![65536, 6]⟩
abbrev S65536x6x1 : Shape := ⟨3, ![65536, 6, 1]⟩
abbrev S1x1x64 : Shape := ⟨3, ![1, 1, 64]⟩
abbrev S65536x128 : Shape := ⟨2, ![65536, 128]⟩
abbrev S65536x4x48 : Shape := ⟨3, ![65536, 4, 48]⟩
abbrev S65536x4x64 : Shape := ⟨3, ![65536, 4, 64]⟩
abbrev S65536x4x96 : Shape := ⟨3, ![65536, 4, 96]⟩
abbrev S65536x4x128 : Shape := ⟨3, ![65536, 4, 128]⟩
abbrev S65536x512 : Shape := ⟨2, ![65536, 512]⟩
abbrev S256x256x384 : Shape := ⟨3, ![256, 256, 384]⟩
abbrev S256x384x256 : Shape := ⟨3, ![256, 384, 256]⟩
abbrev S4x65536 : Shape := ⟨2, ![4, 65536]⟩
abbrev S8x65536 : Shape := ⟨2, ![8, 65536]⟩

abbrev nBuf : Space → Nat
  | .hbm => 141
  | .vmem => 0
  | .smem => 0
  | _ => 0

abbrev hbmTy0_0 (i : Nat) : BufTy := match i % 128 with
  | 0 => ⟨S65536x1024, .f32⟩
  | 1 => ⟨S1024, .f32⟩
  | 2 => ⟨S1024x3540, .f32⟩
  | 3 => ⟨S64, .f32⟩
  | 4 => ⟨S64, .f32⟩
  | 5 => ⟨S65536x1024, .f32⟩
  | 6 => ⟨S_, .f32⟩
  | 7 => ⟨S65536, .f32⟩
  | 8 => ⟨S65536x1, .f32⟩
  | 9 => ⟨S_, .f32⟩
  | 10 => ⟨S65536x1, .f32⟩
  | 11 => ⟨S65536x1, .f32⟩
  | 12 => ⟨S_, .f32⟩
  | 13 => ⟨S65536x1, .f32⟩
  | 14 => ⟨S65536x1, .f32⟩
  | 15 => ⟨S65536x1, .f32⟩
  | 16 => ⟨S65536x1024, .f32⟩
  | 17 => ⟨S65536x1024, .f32⟩
  | 18 => ⟨S1x1024, .f32⟩
  | 19 => ⟨S65536x1024, .f32⟩
  | 20 => ⟨S65536x1024, .f32⟩
  | 21 => ⟨S65536x3540, .f32⟩
  | 22 => ⟨S65536x384, .f32⟩
  | 23 => ⟨S65536x384, .f32⟩
  | 24 => ⟨S65536x384, .f32⟩
  | 25 => ⟨S65536x384, .f32⟩
  | 26 => ⟨S65536x256, .f32⟩
  | 27 => ⟨S65536x64, .f32⟩
  | 28 => ⟨S65536x4, .f32⟩
  | 29 => ⟨S65536x256, .f32⟩
  | 30 => ⟨S65536x256, .f32⟩
  | 31 => ⟨S65536x192, .f32⟩
  | 32 => ⟨S65536x192, .f32⟩
  | 33 => ⟨S65536x384, .f32⟩
  | 34 => ⟨S65536x16, .f32⟩
  | 35 => ⟨S65536x384, .f32⟩
  | 36 => ⟨S65536x6x64, .f32⟩
  | 37 => ⟨S65536x6x64, .f32⟩
  | 38 => ⟨S_, .f32⟩
  | 39 => ⟨S65536x6, .f32⟩
  | 40 => ⟨S65536x6x1, .f32⟩
  | 41 => ⟨S_, .f32⟩
  | 42 => ⟨S65536x6x1, .f32⟩
  | 43 => ⟨S65536x6x1, .f32⟩
  | 44 => ⟨S_, .f32⟩
  | 45 => ⟨S65536x6x1, .f32⟩
  | 46 => ⟨S65536x6x1, .f32⟩
  | 47 => ⟨S65536x6x1, .f32⟩
  | 48 => ⟨S65536x6x64, .f32⟩
  | 49 => ⟨S65536x6x64, .f32⟩
  | 50 => ⟨S1x1x64, .f32⟩
  | 51 => ⟨S65536x6x64, .f32⟩
  | 52 => ⟨S65536x6x64, .f32⟩
  | 53 => ⟨S_, .f32⟩
  | 54 => ⟨S65536x6x64, .f32⟩
  | 55 => ⟨S65536x6x64, .f32⟩
  | 56 => ⟨S65536x384, .f32⟩
  | 57 => ⟨S65536x6x64, .f32⟩
  | 58 => ⟨S65536x6x64, .f32⟩
  | 59 => ⟨S_, .f32⟩
  | 60 => ⟨S65536x6, .f32⟩
  | 61 => ⟨S65536x6x1, .f32⟩
  | 62 => ⟨S_, .f32⟩
  | 63 => ⟨S65536x6x1, .f32⟩
  | 64 => ⟨S65536x6x1, .f32⟩
  | 65 => ⟨S_, .f32⟩
  | 66 => ⟨S65536x6x1, .f32⟩
  | 67 => ⟨S65536x6x1, .f32⟩
  | 68 => ⟨S65536x6x1, .f32⟩
  | 69 => ⟨S65536x6x64, .f32⟩
  | 70 => ⟨S65536x6x64, .f32⟩
  | 71 => ⟨S1x1x64, .f32⟩
  | 72 => ⟨S65536x6x64, .f32⟩
  | 73 => ⟨S65536x6x64, .f32⟩
  | 74 => ⟨S65536x384, .f32⟩
  | 75 => ⟨S_, .f32⟩
  | 76 => ⟨S65536x4, .f32⟩
  | 77 => ⟨S65536x4, .f32⟩
  | 78 => ⟨S65536x384, .bf16⟩
  | 79 => ⟨S65536x384, .bf16⟩
  | 80 => ⟨S65536x384, .f32⟩
  | 81 => ⟨S65536x384, .f32⟩
  | 82 => ⟨S_, .f32⟩
  | 83 => ⟨S65536x384, .f32⟩
  | 84 => ⟨S65536x384, .f32⟩
  | 85 => ⟨S_, .f32⟩
  | 86 => ⟨S65536x384, .f32⟩
  | 87 => ⟨S65536x384, .f32⟩
  | 88 => ⟨S65536x384, .f32⟩
  | 89 => ⟨S65536x256, .bf16⟩
  | 90 => ⟨S65536x128, .f32⟩
  | 91 => ⟨S65536x128, .bf16⟩
  | 92 => ⟨S65536x256, .f32⟩
  | 93 => ⟨S65536x256, .f32⟩
  | 94 => ⟨S_, .f32⟩
  | 95 => ⟨S65536x256, .f32⟩
  | 96 => ⟨S65536x256, .f32⟩
  | 97 => ⟨S_, .f32⟩
  | 98 => ⟨S65536x256, .f32⟩
  | 99 => ⟨S65536x256, .f32⟩
  | 100 => ⟨S65536x256, .f32⟩
  | 101 => ⟨S65536x4x48, .f32⟩
  | 102 => ⟨S_, .i32⟩
  | 103 => ⟨S_, .f32⟩
  | 104 => ⟨S65536x4x64, .f32⟩
  | 105 => ⟨S65536x256, .f32⟩
  | 106 => ⟨S65536x4x48, .f32⟩
  | 107 => ⟨S_, .i32⟩
  | 108 => ⟨S_, .f32⟩
  | 109 => ⟨S65536x4x64, .f32⟩
  | 110 => ⟨S65536x256, .f32⟩
  | 111 => ⟨S65536x4x96, .f32⟩
  | 112 => ⟨S_, .i32⟩
  | 113 => ⟨S_, .f32⟩
  | 114 => ⟨S65536x4x128, .f32⟩
  | 115 => ⟨S65536x512, .f32⟩
  | 116 => ⟨S65536x512, .bf16⟩
  | 117 => ⟨S65536x384, .f32⟩
  | 118 => ⟨S65536x384, .f32⟩
  | 119 => ⟨S_, .f32⟩
  | 120 => ⟨S65536x384, .f32⟩
  | 121 => ⟨S65536x384, .f32⟩
  | 122 => ⟨S_, .f32⟩
  | 123 => ⟨S65536x384, .f32⟩
  | 124 => ⟨S65536x384, .f32⟩
  | 125 => ⟨S65536x384, .f32⟩
  | 126 => ⟨S65536x4x96, .f32⟩
  | 127 => ⟨S_, .i32⟩
  | _ => ⟨S65536x1024, .f32⟩

abbrev hbmTy0_1 (i : Nat) : BufTy := match i % 128 with
  | 0 => ⟨S_, .f32⟩
  | 1 => ⟨S65536x4x128, .f32⟩
  | 2 => ⟨S65536x512, .f32⟩
  | 3 => ⟨S_, .i32⟩
  | 4 => ⟨S_, .f32⟩
  | 5 => ⟨S65536x128, .f32⟩
  | 6 => ⟨S256x256x384, .f32⟩
  | 7 => ⟨S256x384x256, .f32⟩
  | 8 => ⟨S256x384x256, .bf16⟩
  | 9 => ⟨S4x65536, .f32⟩
  | 10 => ⟨S_, .i32⟩
  | 11 => ⟨S_, .f32⟩
  | 12 => ⟨S8x65536, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v68 : Ref sig .tc := ⟨.hbm, 100, rfl⟩
abbrev main_v69 : Ref sig .tc := ⟨.hbm, 101, rfl⟩
abbrev main_c : Ref sig .tc := ⟨.hbm, 102, rfl⟩
abbrev main_call2_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_10 : Ref sig .tc := ⟨.hbm, 107, rfl⟩
abbrev main_call3_v0 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_11 : Ref sig .tc := ⟨.hbm, 112, rfl⟩
abbrev main_call4_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call5_v0 : Ref sig .tc := ⟨.hbm, 117, rfl⟩
abbrev main_call5_v1 : Ref sig .tc := ⟨.hbm, 118, rfl⟩
abbrev main_call5_cst : Ref sig .tc := ⟨.hbm, 119, rfl⟩
abbrev main_call5_v2 : Ref sig .tc := ⟨.hbm, 120, rfl⟩
abbrev main_call5_v3 : Ref sig .tc := ⟨.hbm, 121, rfl⟩
abbrev main_call5_cst_0 : Ref sig .tc := ⟨.hbm, 122, rfl⟩
abbrev main_call5_v4 : Ref sig .tc := ⟨.hbm, 123, rfl⟩
abbrev main_call5_v5 : Ref sig .tc := ⟨.hbm, 124, rfl⟩
abbrev main_v79 : Ref sig .tc := ⟨.hbm, 125, rfl⟩
abbrev main_v80 : Ref sig .tc := ⟨.hbm, 126, rfl⟩
abbrev main_c_12 : Ref sig .tc := ⟨.hbm, 127, rfl⟩
abbrev main_call6_v0 : Ref sig .tc := ⟨.hbm, 128, rfl⟩
abbrev main_v81 : Ref sig .tc := ⟨.hbm, 129, rfl⟩
abbrev main_v82 : Ref sig .tc := ⟨.hbm, 130, rfl⟩
abbrev main_c_13 : Ref sig .tc := ⟨.hbm, 131, rfl⟩
abbrev main_call7_v0 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_14 : Ref sig .tc := ⟨.hbm, 138, rfl⟩
abbrev main_call8_v0 : Ref sig .tc := ⟨.hbm, 139, rfl⟩
abbrev main_v88 : Ref sig .tc := ⟨.hbm, 140, rfl⟩

abbrev nD : Nat := 1
abbrev τ : Topo := Topo.v7x

variable {F : FTy → Type} [FloatOps F]
-- ==== Proof.AttnBody.lean ====
/-
  The body of the attention kernel, run once at symbolic operands: its seven inputs held at their contents, its result
  block and its eight scratch buffers at anything. The body returns with the inputs as they were, the result block and
  the scratch buffers at something. The counted loops are crossed by their generated invariants.
-/
module

public import proofs.«01_k».proof.Proof.Gen.Kernel.Frame
public import proofs.«01_k».proof.Proof.Gen.Kernel.Loops
public import proofs.«01_k».proof.Proof.Gen.Kernel.Skeleton

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄" => MT nD τ sig Unit (Elt F) ℕ (UR sig nD τ) ℕ

/-- A memref of core `c` held whole at contents `f`. -/
abbrev Pt (c : Dev nD) {s : Shape} {e : EltTy} (M : Memref sig .tc .vmem s e) (f : BufTy.Contents (Elt F) M.view.ty) : sProp 𝕄 :=
  M.view.loc (c : Thread nD τ) ↦[M.view.set]{fullShare} f

/-- The third loop's generated invariant, its region taken at the word it does not read. -/
@[sl_loop] def thresholdInv (𝒱 : Variants) (c : Dev nD) (bd : Option 𝒱.V) (E : Set ℕ) (i : grid0.Coords) (arg2 : Memref sig .tc .vmem S1x512x384 .bf16) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x512x256 .bf16) (harg5 : arg5.IsWhole) (arg6 : Memref sig .tc .vmem S1x2048x128 .bf16) (harg6 : arg6.IsWhole) (arg7 : Memref sig .tc .vmem S1x8x512 .f32) (harg7 : arg7.IsWhole) (arg8 : Memref sig .tc .vmem S1x512x384 .f32) (harg8 : arg8.IsWhole) (arg9 : Memref sig .tc .vmem S1x512x384 .bf16) (harg9 : arg9.IsWhole) (arg10 : Memref sig .tc .vmem S8x256x512 .i32) (harg10 : arg10.IsWhole) (arg11 : Memref sig .tc .vmem S8x32x8x512 .i32) (harg11 : arg11.IsWhole) (arg12 : Memref sig .tc .vmem S8x8x512 .i32) (harg12 : arg12.IsWhole) (arg13 : Memref sig .tc .vmem S8x256x512 .f32) (harg13 : arg13.IsWhole) (arg14 : Memref sig .tc .vmem S6x8x256x512 .f32) (harg14 : arg14.IsWhole) (arg15 : Memref sig .tc .vmem S6x8x512 .f32) (harg15 : arg15.IsWhole) (arg16 : Memref sig .tc .vmem S6x80x512 .f32) (harg16 : arg16.IsWhole) (arg17 : Memref sig .tc .vmem S384x512 .f32) (harg17 : arg17.IsWhole) (X_arg11 : BufTy.Contents (Elt F) arg11.view.ty) (G_arg12 : BufTy.Contents (Elt F) arg12.view.ty) (init : IVec S1x512 32 × IVec S1x512 32) :=
  loopInv_k0_t3 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 X_arg11 G_arg12 init

set_option maxHeartbeats 40000000 in
/-- The body runs to its return: from its inputs held whole, its output and its scratch at any contents, back to the same. The one
    conditional whose two ways go on to the same statements (the tie rescue) is run once for each way. -/
theorem body_run (c : Dev nD) (i : grid0.Coords) (arg2 : Memref sig .tc .vmem S1x512x384 .bf16) (harg2 : arg2.IsWhole) (arg3 : Memref sig .tc .vmem S1x2048x384 .bf16) (harg3 : arg3.IsWhole) (arg4 : Memref sig .tc .vmem S1x8x384x256 .bf16) (harg4 : arg4.IsWhole) (arg5 : Memref sig .tc .vmem S1x512x256 .bf16) (harg5 : arg5.IsWhole) (arg6 : Memref sig .tc .vmem S1x2048x128 .bf16) (harg6 : arg6.IsWhole) (arg7 : Memref sig .tc .vmem S1x8x512 .f32) (harg7 : arg7.IsWhole) (arg8 : Memref sig .tc .vmem S1x512x384 .f32) (harg8 : arg8.IsWhole) (arg9 : Memref sig .tc .vmem S1x512x384 .bf16) (harg9 : arg9.IsWhole) (arg10 : Memref sig .tc .vmem S8x256x512 .i32) (harg10 : arg10.IsWhole) (arg11 : Memref sig .tc .vmem S8x32x8x512 .i32) (harg11 : arg11.IsWhole) (arg12 : Memref sig .tc .vmem S8x8x512 .i32) (harg12 : arg12.IsWhole) (arg13 : Memref sig .tc .vmem S8x256x512 .f32) (harg13 : arg13.IsWhole) (arg14 : Memref sig .tc .vmem S6x8x256x512 .f32) (harg14 : arg14.IsWhole) (arg15 : Memref sig .tc .vmem S6x8x512 .f32) (harg15 : arg15.IsWhole) (arg16 : Memref sig .tc .vmem S6x80x512 .f32) (harg16 : arg16.IsWhole) (arg17 : Memref sig .tc .vmem S384x512 .f32) (harg17 : arg17.IsWhole)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (Q : PUnit → sProp 𝕄) :
    iprop(Pt c arg2 X2 ∗ Pt c arg3 X3 ∗ Pt c arg4 X4 ∗ Pt c arg5 X5 ∗ Pt c arg6 X6 ∗ Pt c arg7 X7 ∗ Pt c arg8 X8 ∗ (∃ f, Pt c arg9 f) ∗ (∃ f, Pt c arg10 f) ∗ (∃ f, Pt c arg11 f) ∗ (∃ f, Pt c arg12 f) ∗ (∃ f, Pt c arg13 f) ∗ (∃ f, Pt c arg14 f) ∗ (∃ f, Pt c arg15 f) ∗ (∃ f, Pt c arg16 f) ∗ (∃ f, Pt c arg17 f)
      ∗ (iprop(Pt c arg2 X2 ∗ Pt c arg3 X3 ∗ Pt c arg4 X4 ∗ Pt c arg5 X5 ∗ Pt c arg6 X6 ∗ Pt c arg7 X7 ∗ Pt c arg8 X8 ∗ (∃ f, Pt c arg9 f) ∗ (∃ f, Pt c arg10 f) ∗ (∃ f, Pt c arg11 f) ∗ (∃ f, Pt c arg12 f) ∗ (∃ f, Pt c arg13 f) ∗ (∃ f, Pt c arg14 f) ∗ (∃ f, Pt c arg15 f) ∗ (∃ f, Pt c arg16 f) ∗ (∃ f, Pt c arg17 f)) -∗ Q ⟨⟩))
    ⊢ wp frame (wpE (defs₀ (F := F)) Variants.none c none) Set.univ
        (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [cc0_attn_eq_skeleton]; unfold cc0_attn_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, Hk⟩
  sl_exec_parts
  rcases Classical.em (body_run.sl.v2020 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X6 X7 f11 = 1#1) with hc | hc
  all_goals
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Kernel.Attn

end
-- ==== Proof.AttnFrame.lean ====
module

public import proofs.«01_k».proof.Proof.AttnBody
public import proofs.«01_k».proof.Proof.Gen.Kernel.Frame
public import Idealize.ShloMosaic.Lib.Pipeline.FrameBody
public import Idealize.ShloMosaic.Lib.Claim
public import Idealize.ShloMosaic.Lib.Tactic

/-! The attention call's frame: the body's run (`Attn.body_run`) at every grid point, its output window and its scratch
    at any contents, and the launch over it. The proof data forgets the output window, so nothing is said of what the
    call writes; the arguments are the input windows' arrays, which nothing writes back. -/

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; each input's buffer at its block after every point; the output's forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The one forgotten window: the output's. -/
def forgotten : Fin 8 → Bool := fun w => decide (w = 7)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a grid point -/

/-- The class invariant, scratch by scratch. -/
theorem inv_eq (c : Dev nD) :
    (Pipeline.ΦA (Val := Elt F) (τ := τ) spec0 c : sProp 𝕄)
      = iprop(((∃ f, Pt (F := F) c (Memref.whole cc0_scratch0) f) ∗ (∃ f, Pt (F := F) c (Memref.whole cc0_scratch1) f) ∗ (∃ f, Pt (F := F) c (Memref.whole cc0_scratch2) f) ∗ (∃ f, Pt (F := F) c (Memref.whole cc0_scratch3) f) ∗ (∃ f, Pt (F := F) c (Memref.whole cc0_scratch4) f) ∗ (∃ f, Pt (F := F) c (Memref.whole cc0_scratch5) f) ∗ (∃ f, Pt (F := F) c (Memref.whole cc0_scratch6) f) ∗ (∃ f, Pt (F := F) c (Memref.whole cc0_scratch7) f)) ∗ ∃ r, prngReg c r) := by
  unfold Pipeline.ΦA
  rw [scopedRest0_eq]
  simp only [Pt, Memref.view_whole, View.set_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

set_option maxHeartbeats 2000000 in
/-- The body at any point: its run, from the blocks the inputs' buffers hold; the counters' account passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, inv_eq]
  unfold owns
  iintro ⟨⟨⟨S0, S1, S2, S3, S4, S5, S6, S7⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  iapply (body_run c (grid0.coords t) _ _ _ _ _ _ _ _ _ _ _ _ _ _ _ _ _ _ _ _ _ _ _ _ _ _ _ _ _ _ _ _ f0 f1 f2 f3 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, ⟨%g7, H7⟩, S0, S1, S2, S3, S4, S5, S6, S7⟩
  isplitl [Hr S0 S1 S2 S3 S4 S5 S6 S7]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  iexists _; iexists g7; isplitr; · ipureintro; rfl
  iexact H7

theorem defs₀_row (t : Fin cfg0.N) :
    defs₀ (F := F) .tc cfg0.body (cfg0.bodyArgs t (cfg0.slots t)) = bodyAt0 t := by
  unfold defs₀; rw [Defs.onTc_tc]

/-- The body obligation, the output window forgotten. -/
theorem body_obligation (c : Dev nD) :
    BodyObligation (dats (F := F) m 0 c) (defs₀ (F := F)) Variants.none () Set.univ forgotten := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The launch: the inputs' arrays as launched and every counter at zero. -/
theorem run_main : θ_run defs (onTc (τ := τ) (main (F := F))) (s₀ m ρ) (fun r =>
    Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter reads zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c))⟩, h.2⟩) (run_main m ρ)

end Cert.Kernel.Attn

end
-- ==== Proof.OutSums.lean ====
module

public import Idealize.ShloMosaic.Lib.Pipeline.ValueKit

@[expose] public section

noncomputable section

namespace Cert.OutIdeal.Val

/-- The sum of 1024 terms as a sum of 384, of 256 and of 384 terms. -/
theorem sum_split (f : Fin 1024 → EReal) : ∑ k, f k
    = (∑ k : Fin 384, f ⟨k.val, by omega⟩ + ∑ k : Fin 256, f ⟨384 + k.val, by omega⟩) + ∑ k : Fin 384, f ⟨640 + k.val, by omega⟩ :=
  (Fin.sum_univ_add (M := EReal) (a := 640) (b := 384) (fun k => f k)).trans
    (congrArg (· + _) (Fin.sum_univ_add (M := EReal) (a := 384) (b := 256) (fun k => f (Fin.castAdd 384 k))))

/-- The product of two values that are zero unless `p`. -/
theorem dite_mul_dite (p : Prop) [Decidable p] (a b : p → EReal) :
    (if h : p then a h else 0) * (if h : p then b h else 0) = if h : p then a h * b h else 0 := by
  by_cases h : p
  · simp only [dif_pos h]
  · simp only [dif_neg h, zero_mul]

/-- Equal factors have equal products. -/
theorem mul_congr {a b c d : EReal} (h : a = b) (h' : c = d) : a * c = b * d := by rw [h, h']

/-- A sum over four heads of 128 columns of which the last 32 hold zero is the sum over four heads of 96. -/
theorem sum_heads (g : Fin 384 → EReal) :
    ∑ k : Fin 512, (if h : k.val % 128 < 96 then g ⟨k.val / 128 * 96 + k.val % 128, by omega⟩ else 0) = ∑ k, g k := by
  symm
  refine Finset.sum_of_injOn (fun k : Fin 384 => (⟨k.val / 96 * 128 + k.val % 96, by omega⟩ : Fin 512)) ?_ ?_ ?_ ?_
  · intro a _ b _ h
    have h' : a.val / 96 * 128 + a.val % 96 = b.val / 96 * 128 + b.val % 96 := congrArg Fin.val h
    exact Fin.ext (by omega)
  · intro k _; exact Finset.mem_coe.2 (Finset.mem_univ _)
  · intro k _ hk
    rw [dif_neg]
    intro h
    refine hk ⟨⟨k.val / 128 * 96 + k.val % 128, by omega⟩, Finset.mem_coe.2 (Finset.mem_univ _), Fin.ext ?_⟩
    show (k.val / 128 * 96 + k.val % 128) / 96 * 128 + (k.val / 128 * 96 + k.val % 128) % 96 = k.val
    omega
  · intro k _
    have h : (k.val / 96 * 128 + k.val % 96) % 128 < 96 := by omega
    rw [dif_pos h]
    congr 1
    exact Fin.ext (by show k.val = (k.val / 96 * 128 + k.val % 96) / 128 * 96 + (k.val / 96 * 128 + k.val % 96) % 128; omega)

end Cert.OutIdeal.Val

end
-- ==== Proof.OutEntries.lean ====
module

public import proofs.«01_k».proof.Proof.Gen.OutIdeal.Value
public import proofs.«01_k».proof.Proof.Gen.OutRefIdeal.Run
public import proofs.«01_k».proof.Proof.Gen.OutRefIdeal.Read
public import proofs.«01_k».proof.Proof.OutSums
public import Idealize.ShloMosaic.Lib.Pipeline.ValueKit

@[expose] public section

set_option maxRecDepth 16384

noncomputable section

namespace Cert.OutIdeal.Val

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] :=
  (by decide +kernel : ∀ t : Fin grid0.N, _)

/-- The pad value: the word zero, read as a number. -/
theorem zero_word : (FloatOps.sitofp (F := Ideal) FTy.f32 0#32 : EReal) = 0 := by
  simp [FloatOps.sitofp]

/-- The first operand is the first argument. -/
theorem entry_a (c : Dev nD) (r : Fin 65536) (k : Fin 384) :
    (V m c main_v12 : FVec Ideal S65536x384 .bf16) (ix2 r k) = (m ((c : Thread nD τ).loc main_arg1) : FVec Ideal S65536x384 .f32) (ix2 r k) := by
  simp only [V, hostOps0, hostOps0_1, hostOps0_2, hostOps0_3, hostOps0_4, List.flatten_cons, List.flatten_nil, List.append_nil, List.cons_append, List.nil_append]
  entry_read
  pointwise
  done
/-- The second operand is the second argument. -/
theorem entry_b (c : Dev nD) (r : Fin 65536) (k : Fin 256) :
    (V m c main_v13 : FVec Ideal S65536x256 .bf16) (ix2 r k) = (m ((c : Thread nD τ).loc main_arg2) : FVec Ideal S65536x256 .f32) (ix2 r k) := by
  simp only [V, hostOps0, hostOps0_1, hostOps0_2, hostOps0_3, hostOps0_4, List.flatten_cons, List.flatten_nil, List.append_nil, List.cons_append, List.nil_append]
  entry_read
  pointwise
  done
/-- The third operand is the third argument with each head's 96 columns followed by 32 zeros. -/
theorem entry_c (c : Dev nD) (r : Fin 65536) (k : Fin 512) :
    (V m c main_v14 : FVec Ideal S65536x512 .bf16) (ix2 r k) = if h : k.val % 128 < 96 then (m ((c : Thread nD τ).loc main_arg3) : FVec Ideal S65536x384 .f32) (ix2 r ⟨k.val / 128 * 96 + k.val % 128, by omega⟩) else (0 : EReal) := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, StableHlo.TRef.of, cast_eq]
  pointwise
  have hlt := k.isLt
  exact dite_congr (propext ⟨fun h => h.2, fun h => ⟨by omega, h⟩⟩) (fun _ => rfl) (fun _ => zero_word)
/-- The first weights are rows 0 to 383. -/
theorem entry_wa (c : Dev nD) (r : Fin 384) (k : Fin 1024) :
    (V m c main_v1 : FVec Ideal S384x1024 .bf16) (ix2 r k) = (m ((c : Thread nD τ).loc main_arg4) : FVec Ideal S1024x1024 .f32) (ix2 ⟨r.val, by omega⟩ k) := by
  simp only [V, hostOps0, hostOps0_1, hostOps0_2, hostOps0_3, hostOps0_4, List.flatten_cons, List.flatten_nil, List.append_nil, List.cons_append, List.nil_append]
  entry_read
  pointwise
  done
/-- The second weights are rows 384 to 639. -/
theorem entry_wb (c : Dev nD) (r : Fin 256) (k : Fin 1024) :
    (V m c main_v3 : FVec Ideal S256x1024 .bf16) (ix2 r k) = (m ((c : Thread nD τ).loc main_arg4) : FVec Ideal S1024x1024 .f32) (ix2 ⟨384 + r.val, by omega⟩ k) := by
  simp only [V, hostOps0, hostOps0_1, hostOps0_2, hostOps0_3, hostOps0_4, List.flatten_cons, List.flatten_nil, List.append_nil, List.cons_append, List.nil_append]
  entry_read
  pointwise
  done
/-- The third weights are rows 640 to 1023, each head's 96 rows followed by 32 rows of zeros. -/
theorem entry_wc (c : Dev nD) (r : Fin 512) (k : Fin 1024) :
    (V m c main_v8 : FVec Ideal S512x1024 .bf16) (ix2 r k) = if h : r.val % 128 < 96 then (m ((c : Thread nD τ).loc main_arg4) : FVec Ideal S1024x1024 .f32) (ix2 ⟨640 + (r.val / 128 * 96 + r.val % 128), by omega⟩ k) else (0 : EReal) := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, StableHlo.TRef.of, cast_eq]
  pointwise
  have hlt := r.isLt
  exact dite_congr (propext ⟨fun h => h.2, fun h => ⟨by omega, h⟩⟩) (fun _ => rfl) (fun _ => zero_word)
abbrev REF (x : FVec Ideal S65536x1024 .f32) (a : FVec Ideal S65536x384 .f32) (b : FVec Ideal S65536x256 .f32) (d : FVec Ideal S65536x384 .f32) (w : FVec Ideal S1024x1024 .f32) : FVec Ideal S65536x1024 .f32 :=
  Cert.OutRefIdeal.Read.val_main_v2 (F := Ideal) x a b d w

end Cert.OutIdeal.Val

end
-- ==== Proof.OutValue.lean ====
module

public import proofs.«01_k».proof.Proof.Gen.OutIdeal.Value
public import proofs.«01_k».proof.Proof.Gen.OutRefIdeal.Run
public import proofs.«01_k».proof.Proof.Gen.OutRefIdeal.Read
public import proofs.«01_k».proof.Proof.OutSums
public import proofs.«01_k».proof.Proof.OutEntries
public import Idealize.ShloMosaic.Lib.Pipeline.ValueKit

@[expose] public section

set_option maxRecDepth 16384

noncomputable section

namespace Cert.OutIdeal.Val

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- What the body stores at a grid step is the reference's block: the row times the three parts of the weights, then the input. -/
theorem point (c : Dev nD) (t : Fin cfg0.N) (y) : k0_pay1 (iblk m c 1 t) (iblk m c 4 t) (iblk m c 2 t) (iblk m c 5 t) (iblk m c 3 t) (iblk m c 6 t) (iblk m c 0 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have hN : t.val < 128 := lt_of_lt_of_eq t.isLt (by decide +kernel)
  have hr : t.val * 512 + (y 0).val < 65536 := by
    have h0 : (y 0).val < 512 := (y 0).isLt
    omega
  have hy : ((cfg0.win 7).blk t).view.emb y = ix2 ⟨t.val * 512 + (y 0).val, hr⟩ (y 1) := by
    blk_ext [idx t]
  rw [REF, Cert.OutRefIdeal.Read.val_main_v2_apply, Cert.OutRefIdeal.Read.val_main_v1_apply, hy, sum_split]
  pointwise [k0_pay1, Cert.OutRefIdeal.Read.val_main_v0]
  have hi : ∀ k, Cert.OutRefIdeal.Read.ridx_main_v1 (ix2 ⟨t.val * 512 + (y 0).val, hr⟩ (y 1)) k = ix2 k (y 1) := fun k => by
    funext a; fin_cases a <;> rfl
  have e0 : iblk m c 0 t y = m ((c : Thread nD τ).loc main_arg0) (ix2 ⟨t.val * 512 + (y 0).val, hr⟩ (y 1)) := by
    blk_simp [iblk]; blk_ext [idx t, V]
  have e1 : ∀ k : Fin 384, iblk m c 1 t (ix2 (y 0) k) = (m ((c : Thread nD τ).loc main_arg1) : FVec Ideal S65536x384 .f32) (ix2 ⟨t.val * 512 + (y 0).val, hr⟩ k) := fun k =>
    (by blk_simp [iblk]; blk_ext [idx t] : iblk m c 1 t (ix2 (y 0) k) = V m c main_v12 (ix2 ⟨t.val * 512 + (y 0).val, hr⟩ k)).trans (entry_a m c _ k)
  have e2 : ∀ k : Fin 256, iblk m c 2 t (ix2 (y 0) k) = (m ((c : Thread nD τ).loc main_arg2) : FVec Ideal S65536x256 .f32) (ix2 ⟨t.val * 512 + (y 0).val, hr⟩ k) := fun k =>
    (by blk_simp [iblk]; blk_ext [idx t] : iblk m c 2 t (ix2 (y 0) k) = V m c main_v13 (ix2 ⟨t.val * 512 + (y 0).val, hr⟩ k)).trans (entry_b m c _ k)
  have e3 : ∀ k : Fin 512, iblk m c 3 t (ix2 (y 0) k) = if h : k.val % 128 < 96 then (m ((c : Thread nD τ).loc main_arg3) : FVec Ideal S65536x384 .f32) (ix2 ⟨t.val * 512 + (y 0).val, hr⟩ ⟨k.val / 128 * 96 + k.val % 128, by omega⟩) else (0 : EReal) := fun k =>
    (by blk_simp [iblk]; blk_ext [idx t] : iblk m c 3 t (ix2 (y 0) k) = V m c main_v14 (ix2 ⟨t.val * 512 + (y 0).val, hr⟩ k)).trans (entry_c m c _ k)
  have e4 : ∀ k : Fin 384, iblk m c 4 t (ix2 k (y 1)) = (m ((c : Thread nD τ).loc main_arg4) : FVec Ideal S1024x1024 .f32) (ix2 ⟨k.val, by omega⟩ (y 1)) := fun k =>
    (by blk_simp [iblk]; blk_ext [idx t] : iblk m c 4 t (ix2 k (y 1)) = V m c main_v1 (ix2 k (y 1))).trans (entry_wa m c k (y 1))
  have e5 : ∀ k : Fin 256, iblk m c 5 t (ix2 k (y 1)) = (m ((c : Thread nD τ).loc main_arg4) : FVec Ideal S1024x1024 .f32) (ix2 ⟨384 + k.val, by omega⟩ (y 1)) := fun k =>
    (by blk_simp [iblk]; blk_ext [idx t] : iblk m c 5 t (ix2 k (y 1)) = V m c main_v3 (ix2 k (y 1))).trans (entry_wb m c k (y 1))
  have e6 : ∀ k : Fin 512, iblk m c 6 t (ix2 k (y 1)) = if h : k.val % 128 < 96 then (m ((c : Thread nD τ).loc main_arg4) : FVec Ideal S1024x1024 .f32) (ix2 ⟨640 + (k.val / 128 * 96 + k.val % 128), by omega⟩ (y 1)) else (0 : EReal) := fun k =>
    (by blk_simp [iblk]; blk_ext [idx t] : iblk m c 6 t (ix2 k (y 1)) = V m c main_v8 (ix2 k (y 1))).trans (entry_wc m c k (y 1))
  refine congrArg₂ (· + ·) e0 (congrArg₂ (· + ·) (congrArg₂ (· + ·)
    (Finset.sum_congr rfl fun k _ => congrArg₂ (· * ·) (e1 k) ((e4 k).trans (congrArg _ (hi _).symm)))
    (Finset.sum_congr rfl fun k _ => congrArg₂ (· * ·) (e2 k) ((e5 k).trans (congrArg _ (hi _).symm)))) ?_)
  refine (Finset.sum_congr rfl fun k _ => (mul_congr (e3 k) (e6 k)).trans (dite_mul_dite (k.val % 128 < 96) _ _)).trans
    ((sum_heads fun k => (@HMul.hMul EReal EReal EReal _ ((m ((c : Thread nD τ).loc main_arg3) : FVec Ideal S65536x384 .f32) (ix2 ⟨t.val * 512 + (y 0).val, hr⟩ k)) ((m ((c : Thread nD τ).loc main_arg4) : FVec Ideal S1024x1024 .f32) (ix2 ⟨640 + k.val, by omega⟩ (y 1))))).trans
      (Finset.sum_congr rfl fun k _ => mul_congr ?_ (congrArg _ (hi _).symm)))
  refine Eq.symm ((dif_neg (by omega)).trans ((dif_neg (by omega)).trans (congrArg _ (congrArg _ (Fin.ext ?_)))))
  show 640 + k.val - 384 - 256 = k.val
  omega

/-- What the output array ends holding. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact point m c t y

end Cert.OutIdeal.Val

end
-- ==== Proof.ProjFrame.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle recurses once per coordinate of its long axes
set_option maxRecDepth 16384

noncomputable section

namespace Cert.ProjIdeal.Fr

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- The frame from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x3712 := Rect.unit (s := S1024x3712) ![0, 0] S1024x1536.size inb_S1024x3712_S1024x1536_0_0
abbrev r0_3 : Rect S1024x3712 := Rect.unit (s := S1024x3712) ![0, 1536] S1024x512.size inb_S1024x3712_S1024x512_0_1536
abbrev r0_4 : Rect S1024x3712 := Rect.unit (s := S1024x3712) ![0, 2048] S1024x512.size inb_S1024x3712_S1024x512_0_2048
abbrev r0_5 : Rect S1024x3712 := Rect.unit (s := S1024x3712) ![0, 2560] S1024x1024.size inb_S1024x3712_S1024x1024_0_2560
abbrev r0_6 : Rect S1024x3712 := Rect.unit (s := S1024x3712) ![0, 3584] S1024x128.size inb_S1024x3712_S1024x128_0_3584
abbrev r0_7 : Rect S1x384 := Rect.unit (s := S1x384) ![0, 0] S1x384.size inb_S1x384_S1x384_0_0
abbrev r0_8 : Rect S384x384 := Rect.unit (s := S384x384) ![0, 0] S384x384.size inb_S384x384_S384x384_0_0
abbrev r0_9 : Rect S512x384 := Rect.unit (s := S512x384) ![0, 0] S512x384.size inb_S512x384_S512x384_0_0
abbrev r0_10 : Rect S512x256 := Rect.unit (s := S512x256) ![0, 0] S512x256.size inb_S512x256_S512x256_0_0
abbrev r0_11 : Rect S512x128 := Rect.unit (s := S512x128) ![0, 0] S512x128.size inb_S512x128_S512x128_0_0
abbrev r0_12 : Rect S512x512 := Rect.unit (s := S512x512) ![0, 0] S512x512.size inb_S512x512_S512x512_0_0
abbrev r0_13 : Rect S392x1024 := Rect.unit (s := S392x1024) ![0, 0] S392x1024.size inb_S392x1024_S392x1024_0_0
abbrev r0_14 : Rect S2x384x256 := Rect.unit (s := S2x384x256) ![0, 0, 0] S1x384x256.size inb_S2x384x256_S1x384x256_0_0_0
abbrev r0_15 : Rect S2x384x256 := Rect.unit (s := S2x384x256) ![1, 0, 0] S1x384x256.size inb_S2x384x256_S1x384x256_1_0_0
abbrev r0_16 : Rect S8x512 := Rect.unit (s := S8x512) ![0, 0] S8x512.size inb_S8x512_S8x512_0_0

/-! ## What the body leaves in each output window's buffer -/

/-! ### A value several stores share: the normalised rows, `k0_pay31` -/

def k0_pay31 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : FVec F S512x1024 .bf16 :=
  k0_pay3 (View.ld x0 r0_0) (View.ld x1 r0_1) -- `v15`

/-- Window 7's staging buffer after the body, from the input windows' blocks: its 1 store as pieces, LAST
    FIRST (Lib/Pipeline/FrameBody.lean `View.canon`; the payloads are the skeleton's and the values stated above). -/
def out0_7 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x384 .bf16 :=
  View.canon [⟨r0_9, k0_pay20 (k0_pay5 (View.ld x0 r0_0) (View.ld x1 r0_1) (View.ld x2 r0_2)) (View.ld x4 r0_7) (View.ld x6 r0_8)⟩]

/-- Its stores tile the buffer (checked by evaluation), so they cover it. -/
theorem cover0_7 (p0 : Vec F S512x384 .bf16) (y : S512x384.Idx) :
    ∃ pc ∈ ([⟨r0_9, p0⟩] : List (View.Piece (Elt F) S512x384 .bf16)), y ∈ pc.1.set :=
  View.cover_of_tiled [⟨r0_9, p0⟩] S512x384.size (by rfl) y

/-- Window 8's staging buffer after the body, from the input windows' blocks: its 1 store as pieces, LAST
    FIRST (Lib/Pipeline/FrameBody.lean `View.canon`; the payloads are the skeleton's and the values stated above). -/
def out0_8 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x384 .bf16 :=
  View.canon [⟨r0_9, k0_pay21 (k0_pay6 (View.ld x0 r0_0) (View.ld x1 r0_1) (View.ld x2 r0_2)) (View.ld x5 r0_7) (View.ld x6 r0_8)⟩]

/-- Its stores tile the buffer (checked by evaluation), so they cover it. -/
theorem cover0_8 (p0 : Vec F S512x384 .bf16) (y : S512x384.Idx) :
    ∃ pc ∈ ([⟨r0_9, p0⟩] : List (View.Piece (Elt F) S512x384 .bf16)), y ∈ pc.1.set :=
  View.cover_of_tiled [⟨r0_9, p0⟩] S512x384.size (by rfl) y

/-- Window 9's staging buffer after the body, from the input windows' blocks: its 1 store as pieces, LAST
    FIRST (Lib/Pipeline/FrameBody.lean `View.canon`; the payloads are the skeleton's and the values stated above). -/
def out0_9 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x384 .f32 :=
  View.canon [⟨r0_9, k0_pay22 (k0_pay7 (View.ld x0 r0_0) (View.ld x1 r0_1) (View.ld x2 r0_2))⟩]

/-- Its stores tile the buffer (checked by evaluation), so they cover it. -/
theorem cover0_9 (p0 : Vec F S512x384 .f32) (y : S512x384.Idx) :
    ∃ pc ∈ ([⟨r0_9, p0⟩] : List (View.Piece (Elt F) S512x384 .f32)), y ∈ pc.1.set :=
  View.cover_of_tiled [⟨r0_9, p0⟩] S512x384.size (by rfl) y

/-- Window 10's staging buffer after the body, from the input windows' blocks: its 1 store as pieces, LAST
    FIRST (Lib/Pipeline/FrameBody.lean `View.canon`; the payloads are the skeleton's and the values stated above). -/
def out0_10 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x256 .bf16 :=
  View.canon [⟨r0_10, k0_pay23 (k0_pay8 (View.ld x0 r0_0) (View.ld x1 r0_1) (View.ld x2 r0_2))⟩]

/-- Its stores tile the buffer (checked by evaluation), so they cover it. -/
theorem cover0_10 (p0 : Vec F S512x256 .bf16) (y : S512x256.Idx) :
    ∃ pc ∈ ([⟨r0_10, p0⟩] : List (View.Piece (Elt F) S512x256 .bf16)), y ∈ pc.1.set :=
  View.cover_of_tiled [⟨r0_10, p0⟩] S512x256.size (by rfl) y

/-- Window 11's staging buffer after the body, from the input windows' blocks: its 1 store as pieces, LAST
    FIRST (Lib/Pipeline/FrameBody.lean `View.canon`; the payloads are the skeleton's and the values stated above). -/
def out0_11 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x128 .bf16 :=
  View.canon [⟨r0_11, k0_pay24 (k0_pay9 (View.ld x0 r0_0) (View.ld x1 r0_1) (View.ld x2 r0_2))⟩]

/-- Its stores tile the buffer (checked by evaluation), so they cover it. -/
theorem cover0_11 (p0 : Vec F S512x128 .bf16) (y : S512x128.Idx) :
    ∃ pc ∈ ([⟨r0_11, p0⟩] : List (View.Piece (Elt F) S512x128 .bf16)), y ∈ pc.1.set :=
  View.cover_of_tiled [⟨r0_11, p0⟩] S512x128.size (by rfl) y

/-- Window 12's staging buffer after the body, from the input windows' blocks: its 1 store as pieces, LAST
    FIRST (Lib/Pipeline/FrameBody.lean `View.canon`; the payloads are the skeleton's and the values stated above). -/
def out0_12 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x256 .f32 :=
  View.canon [⟨r0_10, k0_pay11 (View.ld x0 r0_0) (View.ld x1 r0_1) (View.ld x2 r0_3)⟩]

/-- Its stores tile the buffer (checked by evaluation), so they cover it. -/
theorem cover0_12 (p0 : Vec F S512x256 .f32) (y : S512x256.Idx) :
    ∃ pc ∈ ([⟨r0_10, p0⟩] : List (View.Piece (Elt F) S512x256 .f32)), y ∈ pc.1.set :=
  View.cover_of_tiled [⟨r0_10, p0⟩] S512x256.size (by rfl) y

/-- Window 13's staging buffer after the body, from the input windows' blocks: its 1 store as pieces, LAST
    FIRST (Lib/Pipeline/FrameBody.lean `View.canon`; the payloads are the skeleton's and the values stated above). -/
def out0_13 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x256 .f32 :=
  View.canon [⟨r0_10, k0_pay25 (k0_pay12 (View.ld x0 r0_0) (View.ld x1 r0_1) (View.ld x2 r0_3))⟩]

/-- Its stores tile the buffer (checked by evaluation), so they cover it. -/
theorem cover0_13 (p0 : Vec F S512x256 .f32) (y : S512x256.Idx) :
    ∃ pc ∈ ([⟨r0_10, p0⟩] : List (View.Piece (Elt F) S512x256 .f32)), y ∈ pc.1.set :=
  View.cover_of_tiled [⟨r0_10, p0⟩] S512x256.size (by rfl) y

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x256 .f32 :=
  View.canon [⟨r0_10, k0_pay14 (View.ld x0 r0_0) (View.ld x1 r0_1) (View.ld x2 r0_4)⟩]

/-- Its stores tile the buffer (checked by evaluation), so they cover it. -/
theorem cover0_14 (p0 : Vec F S512x256 .f32) (y : S512x256.Idx) :
    ∃ pc ∈ ([⟨r0_10, p0⟩] : List (View.Piece (Elt F) S512x256 .f32)), y ∈ pc.1.set :=
  View.cover_of_tiled [⟨r0_10, p0⟩] S512x256.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x256 .f32 :=
  View.canon [⟨r0_10, k0_pay15 (View.ld x0 r0_0) (View.ld x1 r0_1) (View.ld x2 r0_4)⟩]

/-- Its stores tile the buffer (checked by evaluation), so they cover it. -/
theorem cover0_15 (p0 : Vec F S512x256 .f32) (y : S512x256.Idx) :
    ∃ pc ∈ ([⟨r0_10, p0⟩] : List (View.Piece (Elt F) S512x256 .f32)), y ∈ pc.1.set :=
  View.cover_of_tiled [⟨r0_10, p0⟩] S512x256.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x512 .bf16 :=
  View.canon [⟨r0_12, k0_pay26 (k0_pay17 (View.ld x0 r0_0) (View.ld x1 r0_1) (View.ld x2 r0_5))⟩]

/-- Its stores tile the buffer (checked by evaluation), so they cover it. -/
theorem cover0_16 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x512 .f32 :=
  View.canon [⟨r0_12, k0_pay27 (k0_pay18 (View.ld x0 r0_0) (View.ld x1 r0_1) (View.ld x2 r0_5))⟩]

/-- Its stores tile the buffer (checked by evaluation), so they cover it. -/
theorem cover0_17 (p0 : Vec F S512x512 .f32) (y : S512x512.Idx) :
    ∃ pc ∈ ([⟨r0_12, p0⟩] : List (View.Piece (Elt F) S512x512 .f32)), y ∈ pc.1.set :=
  View.cover_of_tiled [⟨r0_12, p0⟩] S512x512.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S512x128 .f32 :=
  View.canon [⟨r0_11, k0_pay19 (k0_pay31 x0 x1 x2 x3 x4 x5 x6) (View.ld x2 r0_6)⟩]

/-- Its stores tile the buffer (checked by evaluation), so they cover it. -/
theorem cover0_18 (p0 : Vec F S512x128 .f32) (y : S512x128.Idx) :
    ∃ pc ∈ ([⟨r0_11, p0⟩] : List (View.Piece (Elt F) S512x128 .f32)), y ∈ pc.1.set :=
  View.cover_of_tiled [⟨r0_11, p0⟩] S512x128.size (by rfl) y

/-- Window 19's staging buffer after the body, from the input windows' blocks: its 2 stores as pieces, LAST
    FIRST (Lib/Pipeline/FrameBody.lean `View.canon`; the payloads are the skeleton's and the values stated above). -/
def out0_19 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S2x384x256 .bf16 :=
  View.canon [⟨r0_15, k0_pay1 (k0_pay30 (k0_pay31 x0 x1 x2 x3 x4 x5 x6) (View.ld x3 r0_13))⟩,
    ⟨r0_14, k0_pay29 (k0_pay31 x0 x1 x2 x3 x4 x5 x6) (View.ld x3 r0_13)⟩]

/-- Its stores tile the buffer (checked by evaluation), so they cover it. -/
theorem cover0_19 (p0 : Vec F S1x384x256 .bf16) (p1 : Vec F S1x384x256 .bf16) (y : S2x384x256.Idx) :
    ∃ pc ∈ ([⟨r0_15, p0⟩, ⟨r0_14, p1⟩] : List (View.Piece (Elt F) S2x384x256 .bf16)), y ∈ pc.1.set :=
  View.cover_of_tiled [⟨r0_15, p0⟩, ⟨r0_14, p1⟩] S1x384x256.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) : Vec F S8x512 .f32 :=
  View.canon [⟨r0_16, k0_pay2 (k0_pay28 (k0_pay31 x0 x1 x2 x3 x4 x5 x6) (View.ld x3 r0_13))⟩]

/-- Its stores tile the buffer (checked by evaluation), so they cover it. -/
theorem cover0_20 (p0 : Vec F S8x512 .f32) (y : S8x512.Idx) :
    ∃ pc ∈ ([⟨r0_16, p0⟩] : List (View.Piece (Elt F) S8x512 .f32)), y ∈ pc.1.set :=
  View.cover_of_tiled [⟨r0_16, p0⟩] S8x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S392x1024 .bf16) (harg4 : arg4.IsWhole) (arg5 : Memref sig .tc .vmem S1x384 .f32) (harg5 : arg5.IsWhole) (arg6 : Memref sig .tc .vmem S1x384 .f32) (harg6 : arg6.IsWhole) (arg7 : Memref sig .tc .vmem S384x384 .bf16) (harg7 : arg7.IsWhole) (arg8 : Memref sig .tc .vmem S512x384 .bf16) (harg8 : arg8.IsWhole) (arg9 : Memref sig .tc .vmem S512x384 .bf16) (harg9 : arg9.IsWhole) (arg10 : Memref sig .tc .vmem S512x384 .f32) (harg10 : arg10.IsWhole) (arg11 : Memref sig .tc .vmem S512x256 .bf16) (harg11 : arg11.IsWhole) (arg12 : Memref sig .tc .vmem S512x128 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S512x512 .f32) (harg18 : arg18.IsWhole) (arg19 : Memref sig .tc .vmem S512x128 .f32) (harg19 : arg19.IsWhole) (arg20 : Memref sig .tc .vmem S2x384x256 .bf16) (harg20 : arg20.IsWhole) (arg21 : Memref sig .tc .vmem S8x512 .f32) (harg21 : arg21.IsWhole)
    (x0 : Vec F S512x1024 .f32) (x1 : Vec F S1x1024 .f32) (x2 : Vec F S1024x3712 .bf16) (x3 : Vec F S392x1024 .bf16) (x4 : Vec F S1x384 .f32) (x5 : Vec F S1x384 .f32) (x6 : Vec F S384x384 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6) ∗ owns (c : Thread nD τ) arg14 fullShare (out0_13 x0 x1 x2 x3 x4 x5 x6) ∗ owns (c : Thread nD τ) arg15 fullShare (out0_14 x0 x1 x2 x3 x4 x5 x6) ∗ owns (c : Thread nD τ) arg16 fullShare (out0_15 x0 x1 x2 x3 x4 x5 x6) ∗ owns (c : Thread nD τ) arg17 fullShare (out0_16 x0 x1 x2 x3 x4 x5 x6) ∗ owns (c : Thread nD τ) arg18 fullShare (out0_17 x0 x1 x2 x3 x4 x5 x6) ∗ owns (c : Thread nD τ) arg19 fullShare (out0_18 x0 x1 x2 x3 x4 x5 x6) ∗ owns (c : Thread nD τ) arg20 fullShare (out0_19 x0 x1 x2 x3 x4 x5 x6) ∗ owns (c : Thread nD τ) arg21 fullShare (out0_20 x0 x1 x2 x3 x4 x5 x6)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_proj_eq_skeleton]; unfold cc0_proj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t)
    | ⟨11, _⟩ => out0_11 (iblk m c 0 t) (iblk m c 1 t) (iblk m c 2 t) (iblk m c 3 t) (iblk m c 4 t) (iblk m c 5 t) (iblk m c 6 t)
    | ⟨12, _⟩ => out0_12 (iblk m c 0 t) (iblk m c 1 t) (iblk m c 2 t) (iblk m c 3 t) (iblk m c 4 t) (iblk m c 5 t) (iblk m c 6 t)
    | ⟨13, _⟩ => out0_13 (iblk m c 0 t) (iblk m c 1 t) (iblk m c 2 t) (iblk m c 3 t) (iblk m c 4 t) (iblk m c 5 t) (iblk m c 6 t)
    | ⟨14, _⟩ => out0_14 (iblk m c 0 t) (iblk m c 1 t) (iblk m c 2 t) (iblk m c 3 t) (iblk m c 4 t) (iblk m c 5 t) (iblk m c 6 t)
    | ⟨15, _⟩ => out0_15 (iblk m c 0 t) (iblk m c 1 t) (iblk m c 2 t) (iblk m c 3 t) (iblk m c 4 t) (iblk m c 5 t) (iblk m c 6 t)
    | ⟨16, _⟩ => out0_16 (iblk m c 0 t) (iblk m c 1 t) (iblk m c 2 t) (iblk m c 3 t) (iblk m c 4 t) (iblk m c 5 t) (iblk m c 6 t)
    | ⟨17, _⟩ => out0_17 (iblk m c 0 t) (iblk m c 1 t) (iblk m c 2 t) (iblk m c 3 t) (iblk m c 4 t) (iblk m c 5 t) (iblk m c 6 t)
    | ⟨18, _⟩ => out0_18 (iblk m c 0 t) (iblk m c 1 t) (iblk m c 2 t) (iblk m c 3 t) (iblk m c 4 t) (iblk m c 5 t) (iblk m c 6 t)
    | ⟨19, _⟩ => out0_19 (iblk m c 0 t) (iblk m c 1 t) (iblk m c 2 t) (iblk m c 3 t) (iblk m c 4 t) (iblk m c 5 t) (iblk m c 6 t)
    | ⟨20, _⟩ => out0_20 (iblk m c 0 t) (iblk m c 1 t) (iblk m c 2 t) (iblk m c 3 t) (iblk m c 4 t) (iblk m c 5 t) (iblk m c 6 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window . -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The whole frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v57_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v57_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v57_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v57_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v57_4) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v57_5) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v57_6) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v57_7) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v57_8) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v57_9) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v57_10) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v57_11) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v57_12) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v57_13) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 462060 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v57_0) = (dats m 0 c).arrAt 7 cfg0.N
      ∧ r.2.mem ((c : Thread nD τ).loc main_v57_1) = (dats m 0 c).arrAt 8 cfg0.N
      ∧ r.2.mem ((c : Thread nD τ).loc main_v57_2) = (dats m 0 c).arrAt 9 cfg0.N
      ∧ r.2.mem ((c : Thread nD τ).loc main_v57_3) = (dats m 0 c).arrAt 10 cfg0.N
      ∧ r.2.mem ((c : Thread nD τ).loc main_v57_4) = (dats m 0 c).arrAt 11 cfg0.N
      ∧ r.2.mem ((c : Thread nD τ).loc main_v57_5) = (dats m 0 c).arrAt 12 cfg0.N
      ∧ r.2.mem ((c : Thread nD τ).loc main_v57_6) = (dats m 0 c).arrAt 13 cfg0.N
      ∧ r.2.mem ((c : Thread nD τ).loc main_v57_7) = (dats m 0 c).arrAt 14 cfg0.N
      ∧ r.2.mem ((c : Thread nD τ).loc main_v57_8) = (dats m 0 c).arrAt 15 cfg0.N
      ∧ r.2.mem ((c : Thread nD τ).loc main_v57_9) = (dats m 0 c).arrAt 16 cfg0.N
      ∧ r.2.mem ((c : Thread nD τ).loc main_v57_10) = (dats m 0 c).arrAt 17 cfg0.N
      ∧ r.2.mem ((c : Thread nD τ).loc main_v57_11) = (dats m 0 c).arrAt 18 cfg0.N
      ∧ r.2.mem ((c : Thread nD τ).loc main_v57_12) = (dats m 0 c).arrAt 19 cfg0.N
      ∧ r.2.mem ((c : Thread nD τ).loc main_v57_13) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      post9 m r h c,
      post10 m r h c,
      post11 m r h c,
      post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c⟩)
    (run_main m ρ)

end Cert.ProjIdeal.Fr

end
-- ==== Proof.ProjEntries.lean ====
module

public import proofs.«01_k».proof.Proof.ProjFrame
public import proofs.«01_k».proof.Proof.Gen.ProjRefIdeal.Run
public import proofs.«01_k».proof.Proof.Gen.ProjRefIdeal.Read
public import Idealize.ShloMosaic.Lib.StableHlo.RunRead
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

/-- The pad value: the word zero, read as a number. -/
theorem zero_word : (FloatOps.sitofp (F := Ideal) FTy.f32 0#32 : EReal) = 0 := by
  simp [FloatOps.sitofp]

/-- One entry of the projection's weights, at two spellings of its column. -/
theorem col_eq (w : FVec Ideal S1024x3540 .f32) (r : Fin 1024) {a b : ℕ} {ha : a < 3540} {hb : b < 3540} (h : a = b) :
    w (ix2 r ⟨a, ha⟩) = w (ix2 r ⟨b, hb⟩) := by
  subst h; rfl

/-- The weights' columns of the query. -/
theorem entry_q (c : Dev nD) (r : Fin 1024) (k : Fin 384) :
    (V m c main_v29 : FVec Ideal S1024x3712 .bf16) (ix2 r ⟨0 + k.val, by omega⟩) = (m ((c : Thread nD τ).loc main_arg2) : FVec Ideal S1024x3540 .f32) (ix2 r ⟨0 + k.val, by omega⟩) := by
  unfold V
  after_reads_simp
  simp only [Matrix.cons_val]
  pointwise
  have hlt := k.isLt
  after_reads_simp
  pointwise

/-- The weights' columns of the key. -/
theorem entry_k (c : Dev nD) (r : Fin 1024) (k : Fin 384) :
    (V m c main_v29 : FVec Ideal S1024x3712 .bf16) (ix2 r ⟨384 + k.val, by omega⟩) = (m ((c : Thread nD τ).loc main_arg2) : FVec Ideal S1024x3540 .f32) (ix2 r ⟨384 + k.val, by omega⟩) := by
  unfold V
  after_reads_simp
  simp only [Matrix.cons_val]
  pointwise
  have hlt := k.isLt
  after_reads_simp
  pointwise

/-- The weights' columns of the attention gate. -/
theorem entry_z (c : Dev nD) (r : Fin 1024) (k : Fin 384) :
    (V m c main_v29 : FVec Ideal S1024x3712 .bf16) (ix2 r ⟨768 + k.val, by omega⟩) = (m ((c : Thread nD τ).loc main_arg2) : FVec Ideal S1024x3540 .f32) (ix2 r ⟨1152 + k.val, by omega⟩) := by
  unfold V
  after_reads_simp
  simp only [Matrix.cons_val]
  pointwise
  have hlt := k.isLt
  refine (dif_neg (by omega)).trans ((dif_neg (by omega)).trans ((dif_pos (by omega)).trans ?_))
  after_reads_simp
  pointwise
  exact col_eq (m ((c : Thread nD τ).loc main_arg2)) r (by omega)

/-- The weights' columns of the index query. -/
theorem entry_iq (c : Dev nD) (r : Fin 1024) (k : Fin 256) :
    (V m c main_v29 : FVec Ideal S1024x3712 .bf16) (ix2 r ⟨1152 + k.val, by omega⟩) = (m ((c : Thread nD τ).loc main_arg2) : FVec Ideal S1024x3540 .f32) (ix2 r ⟨1536 + k.val, by omega⟩) := by
  unfold V
  after_reads_simp
  simp only [Matrix.cons_val]
  pointwise
  have hlt := k.isLt
  refine (dif_neg (by omega)).trans ((dif_neg (by omega)).trans ((dif_neg (by omega)).trans ((dif_pos (by omega)).trans ?_)))
  after_reads_simp
  pointwise
  exact col_eq (m ((c : Thread nD τ).loc main_arg2)) r (by omega)

/-- The weights' columns of the index key. -/
theorem entry_ik (c : Dev nD) (r : Fin 1024) (k : Fin 128) :
    (V m c main_v29 : FVec Ideal S1024x3712 .bf16) (ix2 r ⟨1408 + k.val, by omega⟩) = (m ((c : Thread nD τ).loc main_arg2) : FVec Ideal S1024x3540 .f32) (ix2 r ⟨1792 + k.val % 64, by omega⟩) := by
  unfold V
  after_reads_simp
  simp only [Matrix.cons_val]
  pointwise
  have hlt := k.isLt
  refine (dif_neg (by omega)).trans ((dif_neg (by omega)).trans ((dif_neg (by omega)).trans ((dif_neg (by omega)).trans ((dif_pos (by omega)).trans ?_))))
  after_reads_simp
  pointwise
  split
  · exact col_eq (m ((c : Thread nD τ).loc main_arg2)) r (by omega)
  · exact col_eq (m ((c : Thread nD τ).loc main_arg2)) r (by omega)

/-- The weights' columns of the pool input. -/
theorem entry_pu (c : Dev nD) (r : Fin 1024) (k : Fin 256) :
    (V m c main_v29 : FVec Ideal S1024x3712 .bf16) (ix2 r ⟨1536 + k.val, by omega⟩) = (m ((c : Thread nD τ).loc main_arg2) : FVec Ideal S1024x3540 .f32) (ix2 r ⟨1860 + k.val, by omega⟩) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_pos (by omega)).trans ?_)))))
  after_reads_simp
  pointwise
  exact col_eq (m ((c : Thread nD τ).loc main_arg2)) r (by omega)

/-- The weights' columns of the pool gate. -/
theorem entry_pz (c : Dev nD) (r : Fin 1024) (k : Fin 256) :
    (V m c main_v29 : FVec Ideal S1024x3712 .bf16) (ix2 r ⟨1792 + k.val, by omega⟩) = (m ((c : Thread nD τ).loc main_arg2) : FVec Ideal S1024x3540 .f32) (ix2 r ⟨2116 + k.val, by omega⟩) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_neg (by omega)).trans ((dif_pos (by omega)).trans ?_))))))
  after_reads_simp
  pointwise
  exact col_eq (m ((c : Thread nD τ).loc main_arg2)) r (by omega)

/-- The weights' columns of the linear attention query. -/
theorem entry_gq (c : Dev nD) (r : Fin 1024) (k : Fin 256) :
    (V m c main_v29 : FVec Ideal S1024x3712 .bf16) (ix2 r ⟨2048 + k.val, by omega⟩) = if h : k.val % 64 < 48 then (m ((c : Thread nD τ).loc main_arg2) : FVec Ideal S1024x3540 .f32) (ix2 r ⟨2372 + (k.val / 64 * 48 + k.val % 64), by omega⟩) else (0 : EReal) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_neg (by omega)).trans ((dif_neg (by omega)).trans ((dif_pos (by omega)).trans ?_)))))))
  after_reads_simp
  simp only [StableHlo.TRef.toBuf, StableHlo.TRef.ofBuf, StableHlo.TRef.of, cast_eq]
  pointwise
  exact dite_congr (propext ⟨fun h => by omega, fun h => ⟨by omega, by omega⟩⟩) (fun h => col_eq (m ((c : Thread nD τ).loc main_arg2)) r (by omega)) (fun _ => zero_word)

/-- The weights' columns of the linear attention key. -/
theorem entry_gk (c : Dev nD) (r : Fin 1024) (k : Fin 256) :
    (V m c main_v29 : FVec Ideal S1024x3712 .bf16) (ix2 r ⟨2304 + k.val, by omega⟩) = if h : k.val % 64 < 48 then (m ((c : Thread nD τ).loc main_arg2) : FVec Ideal S1024x3540 .f32) (ix2 r ⟨2564 + (k.val / 64 * 48 + k.val % 64), by omega⟩) else (0 : EReal) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_))))))))
  after_reads_simp
  simp only [StableHlo.TRef.toBuf, StableHlo.TRef.ofBuf, StableHlo.TRef.of, cast_eq]
  pointwise
  exact dite_congr (propext ⟨fun h => by omega, fun h => ⟨by omega, by omega⟩⟩) (fun h => col_eq (m ((c : Thread nD τ).loc main_arg2)) r (by omega)) (fun _ => zero_word)

/-- The weights' columns of the linear attention value. -/
theorem entry_gv (c : Dev nD) (r : Fin 1024) (k : Fin 512) :
    (V m c main_v29 : FVec Ideal S1024x3712 .bf16) (ix2 r ⟨2560 + k.val, by omega⟩) = if h : k.val % 128 < 96 then (m ((c : Thread nD τ).loc main_arg2) : FVec Ideal S1024x3540 .f32) (ix2 r ⟨2756 + (k.val / 128 * 96 + k.val % 128), by omega⟩) else (0 : EReal) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_)))))))))
  after_reads_simp
  simp only [StableHlo.TRef.toBuf, StableHlo.TRef.ofBuf, StableHlo.TRef.of, cast_eq]
  pointwise
  exact dite_congr (propext ⟨fun h => by omega, fun h => ⟨by omega, by omega⟩⟩) (fun h => col_eq (m ((c : Thread nD τ).loc main_arg2)) r (by omega)) (fun _ => zero_word)

/-- The weights' columns of the linear attention gate. -/
theorem entry_gz (c : Dev nD) (r : Fin 1024) (k : Fin 512) :
    (V m c main_v29 : FVec Ideal S1024x3712 .bf16) (ix2 r ⟨3072 + k.val, by omega⟩) = if h : k.val % 128 < 96 then (m ((c : Thread nD τ).loc main_arg2) : FVec Ideal S1024x3540 .f32) (ix2 r ⟨3156 + (k.val / 128 * 96 + k.val % 128), by omega⟩) else (0 : EReal) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_))))))))))
  after_reads_simp
  simp only [StableHlo.TRef.toBuf, StableHlo.TRef.ofBuf, StableHlo.TRef.of, cast_eq]
  pointwise
  exact dite_congr (propext ⟨fun h => by omega, fun h => ⟨by omega, by omega⟩⟩) (fun h => col_eq (m ((c : Thread nD τ).loc main_arg2)) r (by omega)) (fun _ => zero_word)

/-- The weights' columns of the forget gate. -/
theorem entry_gg (c : Dev nD) (r : Fin 1024) (k : Fin 128) :
    (V m c main_v29 : FVec Ideal S1024x3712 .bf16) (ix2 r ⟨3584 + k.val, by omega⟩) = if h : k.val < 16 then (m ((c : Thread nD τ).loc main_arg2) : FVec Ideal S1024x3540 .f32) (ix2 r ⟨3140 + k.val, by omega⟩) else (0 : EReal) := by
  unfold V
  after_reads_simp
  simp only [Matrix.cons_val]
  pointwise
  have hlt := k.isLt
  refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ?_))))))))))
  after_reads_simp
  simp only [StableHlo.TRef.toBuf, StableHlo.TRef.ofBuf, StableHlo.TRef.of, cast_eq]
  pointwise
  exact dite_congr (propext ⟨fun h => by omega, fun h => by omega⟩) (fun h => col_eq (m ((c : Thread nD τ).loc main_arg2)) r (by omega)) (fun _ => zero_word)

end Cert.ProjIdeal.Val

end
-- ==== Proof.ProjEntriesB.lean ====
module

public import proofs.«01_k».proof.Proof.ProjFrame
public import proofs.«01_k».proof.Proof.Gen.ProjRefIdeal.Run
public import proofs.«01_k».proof.Proof.Gen.ProjRefIdeal.Read
public import Idealize.ShloMosaic.Lib.StableHlo.RunRead
public import proofs.«01_k».proof.Proof.ProjEntries
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

/-- The normalisation's gain, as a row. -/
theorem entry_ng (c : Dev nD) (k : Fin 1024) :
    (V m c main_v56 : FVec Ideal S1x1024 .f32) (ix2 0 k) = (m ((c : Thread nD τ).loc main_arg1) : FVec Ideal S1024 .f32) (ix1 k) := by
  unfold V
  after_reads_simp
  pointwise
  done
/-- The transposed weights' rows of the value. -/
theorem entry_wv (c : Dev nD) (r : Fin 384) (k : Fin 1024) :
    (V m c main_v36 : FVec Ideal S392x1024 .bf16) (ix2 ⟨r.val, by omega⟩ k) = (m ((c : Thread nD τ).loc main_arg2) : FVec Ideal S1024x3540 .f32) (ix2 k ⟨768 + r.val, by omega⟩) := by
  unfold V
  after_reads_simp
  pointwise
  after_reads_simp
  pointwise
  done
/-- The transposed weights' rows of the index weights: four halved rows, then four rows of zeros. -/
theorem entry_wi (c : Dev nD) (r : Fin 8) (k : Fin 1024) :
    (V m c main_v36 : FVec Ideal S392x1024 .bf16) (ix2 ⟨384 + r.val, by omega⟩ k) = if h : r.val < 4 then (@HMul.hMul EReal EReal EReal _ ((m ((c : Thread nD τ).loc main_arg2) : FVec Ideal S1024x3540 .f32) (ix2 k ⟨1856 + r.val, by omega⟩)) (FloatOps.ofBits (F := Ideal) FTy.f32 0x3F000000#32)) else (0 : EReal) := by
  unfold V
  after_reads_simp
  pointwise
  after_reads_simp
  simp only [StableHlo.TRef.toBuf, StableHlo.TRef.ofBuf, StableHlo.TRef.of, cast_eq]
  pointwise
  exact dite_congr rfl (fun _ => rfl) (fun _ => zero_word)
/-- The query gain, repeated for each head and scaled. -/
theorem entry_qg (c : Dev nD) (k : Fin 384) :
    (V m c main_v42 : FVec Ideal S1x384 .f32) (ix2 0 k) = @HMul.hMul EReal EReal EReal _ ((m ((c : Thread nD τ).loc main_arg3) : FVec Ideal S64 .f32) (ix1 ⟨k.val % 64, by omega⟩)) (FloatOps.ofBits (F := Ideal) FTy.f32 0x3E000000#32) := by
  unfold V
  after_reads_simp
  pointwise
  done
/-- The key gain, repeated for each head. -/
theorem entry_kg (c : Dev nD) (k : Fin 384) :
    (V m c main_v46 : FVec Ideal S1x384 .f32) (ix2 0 k) = ((m ((c : Thread nD τ).loc main_arg4) : FVec Ideal S64 .f32) (ix1 ⟨k.val % 64, by omega⟩)) := by
  unfold V
  after_reads_simp
  pointwise
  done
/-- The head of a column, as the host computes it: the quotient by 64 rounded down. -/
def headWord (i : Fin 384) : BitVec 32 :=
  Scalar.select
    (IntOp.andi
      (IntOp.cmpi CmpIPredicate.ne (if BitVec.ofNat 32 i.val = 0 then 0 else if (BitVec.ofNat 32 i.val).msb = true then (-1 : BitVec 32) else 1)
        (if (64#32 : BitVec 32) = 0 then 0 else if BitVec.msb (64#32) = true then (-1 : BitVec 32) else 1))
      (IntOp.cmpi CmpIPredicate.ne (IntOp.remsi ArithUnit.host (BitVec.ofNat 32 i.val) 64#32) 0#32))
    (IntOp.subi (IntOp.divsi ArithUnit.host (BitVec.ofNat 32 i.val) 64#32) 1#32)
    (IntOp.divsi ArithUnit.host (BitVec.ofNat 32 i.val) 64#32)
theorem headWord_eq : ∀ i : Fin 384, headWord i = BitVec.ofNat 32 (i.val / 64) := by decide +kernel
theorem cmp_heads : ∀ a b : Fin 6, IntOp.cmpi CmpIPredicate.eq (BitVec.ofNat 32 a.val) (BitVec.ofNat 32 b.val) = if a.val = b.val then 1#1 else 0#1 := by
  decide +kernel
/-- The averaging matrix. -/
theorem entry_gm (c : Dev nD) (i j : Fin 384) :
    (V m c main_v55 : FVec Ideal S384x384 .bf16) (ix2 i j) = if i.val / 64 = j.val / 64 then (FloatOps.ofBits (F := Ideal) FTy.f32 0x3C800000#32) else (0 : EReal) := by
  unfold V
  after_reads_simp
  simp only [StableHlo.TRef.toBuf, StableHlo.TRef.ofBuf, StableHlo.TRef.of, cast_eq]
  pointwise
  show Scalar.select (IntOp.cmpi CmpIPredicate.eq (headWord i) (headWord j)) _ _ = _
  rw [headWord_eq i, headWord_eq j, cmp_heads ⟨i.val / 64, by omega⟩ ⟨j.val / 64, by omega⟩]
  by_cases h : i.val / 64 = j.val / 64
  · simp only [if_pos h]; rfl
  · simp only [if_neg h]; rfl

end Cert.ProjIdeal.Val

end
-- ==== Proof.ProjRows.lean ====
module

public import proofs.«01_k».proof.Proof.ProjFrame
public import proofs.«01_k».proof.Proof.Gen.ProjRefIdeal.Run
public import proofs.«01_k».proof.Proof.Gen.ProjRefIdeal.Read
public import proofs.«01_k».proof.Proof.ProjEntriesB
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0, 0] ∧ win0_20.index t = ![0, t.val] :=
  (by decide +kernel : ∀ t : Fin grid0.N, _)

theorem row_lt (t : Fin cfg0.N) (a : Fin 512) : t.val * 512 + a.val < 65536 := by
  have hN : t.val < 128 := lt_of_lt_of_eq t.isLt (by decide +kernel)
  have h0 := a.isLt
  omega

/-- The array's row that a block's row is, at a grid step. -/
def row (t : Fin cfg0.N) (a : Fin 512) : Fin 65536 := ⟨t.val * 512 + a.val, row_lt t a⟩

/-- The normalised input, as the reference has it. -/
abbrev hn (c : Dev nD) : FVec Ideal S65536x1024 .f32 :=
  Cert.ProjRefIdeal.Read.val_main_v12 (F := Ideal) (m ((c : Thread nD τ).loc main_arg0)) (m ((c : Thread nD τ).loc main_arg1))

theorem read0 (c : Dev nD) (t : Fin cfg0.N) (a : Fin 512) (k : Fin 1024) :
    iblk m c 0 t (ix2 a k) = V m c main_arg0 (ix2 (row t a) k) := by
  blk_simp [iblk]
  generalize V m c main_arg0 = g
  blk_ext [idx t, row]
theorem read1 (c : Dev nD) (t : Fin cfg0.N) (k : Fin 1024) : iblk m c 1 t (ix2 0 k) = V m c main_v56 (ix2 0 k) := by
  blk_simp [iblk]
  generalize V m c main_v56 = g
  blk_ext [idx t]
theorem in0 (c : Dev nD) (t : Fin cfg0.N) (a : Fin 512) (k : Fin 1024) :
    iblk m c 0 t (ix2 a k) = m ((c : Thread nD τ).loc main_arg0) (ix2 (row t a) k) :=
  (read0 m c t a k).trans (congrFun (V_main_arg0 m c) _)
theorem in1 (c : Dev nD) (t : Fin cfg0.N) (k : Fin 1024) :
    iblk m c 1 t (ix2 0 k) = m ((c : Thread nD τ).loc main_arg1) (ix1 k) :=
  (read1 m c t k).trans (entry_ng m c k)
theorem ld_2 (c : Dev nD) (t : Fin cfg0.N) (k : Fin 1024) (j : Fin 1536) :
    View.ld (iblk m c 2 t) r0_2 (ix2 k j) = V m c main_v29 (ix2 k ⟨j.val, by omega⟩) := by
  blk_simp [iblk]
  generalize V m c main_v29 = g
  show g (((cfg0.win 2).blk t).view.emb (r0_2.idx (ix2 k j))) = _
  have h0 : (r0_2.idx (ix2 k j) 0).val = k.val := by
    simp [r0_2]
  have h1 : (r0_2.idx (ix2 k j) 1).val = j.val := by
    simp [r0_2]
  blk_ext [idx t, h0, h1]
theorem ld_3 (c : Dev nD) (t : Fin cfg0.N) (k : Fin 1024) (j : Fin 512) :
    View.ld (iblk m c 2 t) r0_3 (ix2 k j) = V m c main_v29 (ix2 k ⟨1536 + j.val, by omega⟩) := by
  blk_simp [iblk]
  generalize V m c main_v29 = g
  show g (((cfg0.win 2).blk t).view.emb (r0_3.idx (ix2 k j))) = _
  have h0 : (r0_3.idx (ix2 k j) 0).val = k.val := by
    simp [r0_3]
  have h1 : (r0_3.idx (ix2 k j) 1).val = 1536 + j.val := by
    simp [r0_3]
  blk_ext [idx t, h0, h1]
theorem ld_4 (c : Dev nD) (t : Fin cfg0.N) (k : Fin 1024) (j : Fin 512) :
    View.ld (iblk m c 2 t) r0_4 (ix2 k j) = V m c main_v29 (ix2 k ⟨2048 + j.val, by omega⟩) := by
  blk_simp [iblk]
  generalize V m c main_v29 = g
  show g (((cfg0.win 2).blk t).view.emb (r0_4.idx (ix2 k j))) = _
  have h0 : (r0_4.idx (ix2 k j) 0).val = k.val := by
    simp [r0_4]
  have h1 : (r0_4.idx (ix2 k j) 1).val = 2048 + j.val := by
    simp [r0_4]
  blk_ext [idx t, h0, h1]
theorem ld_5 (c : Dev nD) (t : Fin cfg0.N) (k : Fin 1024) (j : Fin 1024) :
    View.ld (iblk m c 2 t) r0_5 (ix2 k j) = V m c main_v29 (ix2 k ⟨2560 + j.val, by omega⟩) := by
  blk_simp [iblk]
  generalize V m c main_v29 = g
  show g (((cfg0.win 2).blk t).view.emb (r0_5.idx (ix2 k j))) = _
  have h0 : (r0_5.idx (ix2 k j) 0).val = k.val := by
    simp [r0_5]
  have h1 : (r0_5.idx (ix2 k j) 1).val = 2560 + j.val := by
    simp [r0_5]
  blk_ext [idx t, h0, h1]
theorem ld_6 (c : Dev nD) (t : Fin cfg0.N) (k : Fin 1024) (j : Fin 128) :
    View.ld (iblk m c 2 t) r0_6 (ix2 k j) = V m c main_v29 (ix2 k ⟨3584 + j.val, by omega⟩) := by
  blk_simp [iblk]
  generalize V m c main_v29 = g
  show g (((cfg0.win 2).blk t).view.emb (r0_6.idx (ix2 k j))) = _
  have h0 : (r0_6.idx (ix2 k j) 0).val = k.val := by
    simp [r0_6]
  have h1 : (r0_6.idx (ix2 k j) 1).val = 3584 + j.val := by
    simp [r0_6]
  blk_ext [idx t, h0, h1]
/-- The normalised block is the reference's normalised input at the block's rows. -/
theorem hrow (c : Dev nD) (t : Fin cfg0.N) (a : Fin 512) (k : Fin 1024) :
    k0_pay3 (iblk m c 0 t) (iblk m c 1 t) (ix2 a k) = hn m c (ix2 (row t a) k) := by
  pointwise [k0_pay3, hn, Cert.ProjRefIdeal.Read.val_main_v12, Cert.ProjRefIdeal.Read.val_main_v11, Cert.ProjRefIdeal.Read.val_main_v10, Cert.ProjRefIdeal.Read.val_main_v9, Cert.ProjRefIdeal.Read.val_main_v8, Cert.ProjRefIdeal.Read.val_main_v7, Cert.ProjRefIdeal.Read.val_main_v6, Cert.ProjRefIdeal.Read.val_main_v5, Cert.ProjRefIdeal.Read.val_main_v4, Cert.ProjRefIdeal.Read.val_main_v3, Cert.ProjRefIdeal.Read.val_main_v2, Cert.ProjRefIdeal.Read.val_main_v1, Cert.ProjRefIdeal.Read.val_main_v0, Cert.ProjRefIdeal.Read.val_main_cst, Cert.ProjRefIdeal.Read.val_main_cst_0, Cert.ProjRefIdeal.Read.val_main_cst_1]
  simp only [in0, in1]

theorem ix2_col {n : ℕ} (k : Fin 1024) {a b : ℕ} {ha : a < n} {hb : b < n} (h : a = b) : (ix2 k ⟨a, ha⟩ : (⟨2, ![1024, n]⟩ : Shape).Idx) = ix2 k ⟨b, hb⟩ := by
  subst h; rfl

/-- The reference's projection, one entry. -/
abbrev prj (c : Dev nD) (r : Fin 65536) (j : Fin 3540) : EReal :=
  Cert.ProjRefIdeal.Read.val_main_v13 (F := Ideal) (m ((c : Thread nD τ).loc main_arg0)) (m ((c : Thread nD τ).loc main_arg1)) (m ((c : Thread nD τ).loc main_arg2)) (ix2 r j)

theorem mul_eq {x y z w : EReal} (h : x = z) (h' : y = w) : x * y = z * w := by rw [h, h']

/-- A row of the normalised input times a column of the weights. -/
theorem prj_eq (c : Dev nD) (r : Fin 65536) (j : Fin 3540) (f : Fin 1024 → EReal)
    (hf : ∀ k, f k = (m ((c : Thread nD τ).loc main_arg2) : FVec Ideal S1024x3540 .f32) (ix2 k j)) :
    ∑ k : Fin 1024, @HMul.hMul EReal EReal EReal _ (hn m c (ix2 r k)) (f k) = prj m c r j := by
  refine Eq.symm ((Cert.ProjRefIdeal.Read.val_main_v13_apply _ _ _ _).trans (Finset.sum_congr rfl fun k _ => mul_eq (congrArg _ ?_) ((congrArg _ ?_).trans (hf k).symm)))
  · funext a; fin_cases a <;> rfl
  · funext a; fin_cases a <;> rfl

/-- The same where the columns past a bound are zero. -/
theorem prj_dite (c : Dev nD) (r : Fin 65536) (p : Prop) [Decidable p] (j : p → Fin 3540) (f : Fin 1024 → EReal)
    (hf : ∀ k, f k = if h : p then (m ((c : Thread nD τ).loc main_arg2) : FVec Ideal S1024x3540 .f32) (ix2 k (j h)) else (0 : EReal)) :
    ∑ k : Fin 1024, @HMul.hMul EReal EReal EReal _ (hn m c (ix2 r k)) (f k) = if h : p then prj m c r (j h) else 0 := by
  by_cases h : p
  · rw [dif_pos h]
    exact prj_eq m c r (j h) f fun k => (hf k).trans (dif_pos h)
  · rw [dif_neg h]
    refine Finset.sum_eq_zero fun k _ => ?_
    rw [hf k, dif_neg h, mul_zero]

theorem pay_q (x0 : Vec Ideal S512x1024 .f32) (x1 : Vec Ideal S1x1024 .f32) (w : Vec Ideal S1024x1536 .bf16) (a : Fin 512) (j : Fin 384) :
    k0_pay5 x0 x1 w (ix2 a j) = ∑ k : Fin 1024, @HMul.hMul EReal EReal EReal _ (k0_pay3 x0 x1 (ix2 a k)) (w (ix2 k ⟨j.val, by omega⟩)) := by
  pointwise [k0_pay5, k0_pay4]
theorem pr_q (c : Dev nD) (t : Fin cfg0.N) (a : Fin 512) (j : Fin 384) :
    k0_pay5 (iblk m c 0 t) (iblk m c 1 t) (View.ld (iblk m c 2 t) r0_2) (ix2 a j) = prj m c (row t a) ⟨0 + j.val, by omega⟩ :=
  (pay_q _ _ _ a j).trans ((Finset.sum_congr rfl fun k _ => mul_eq (hrow m c t a k) rfl).trans (prj_eq m c (row t a) _ _ fun k => ((ld_2 m c t k ⟨j.val, by omega⟩).trans ((congrArg (V m c main_v29) (ix2_col k (by show (j.val) = 0 + j.val; omega))).trans (entry_q m c k j)))))
theorem pay_k (x0 : Vec Ideal S512x1024 .f32) (x1 : Vec Ideal S1x1024 .f32) (w : Vec Ideal S1024x1536 .bf16) (a : Fin 512) (j : Fin 384) :
    k0_pay6 x0 x1 w (ix2 a j) = ∑ k : Fin 1024, @HMul.hMul EReal EReal EReal _ (k0_pay3 x0 x1 (ix2 a k)) (w (ix2 k ⟨384 + j.val, by omega⟩)) := by
  pointwise [k0_pay6, k0_pay4]
theorem pr_k (c : Dev nD) (t : Fin cfg0.N) (a : Fin 512) (j : Fin 384) :
    k0_pay6 (iblk m c 0 t) (iblk m c 1 t) (View.ld (iblk m c 2 t) r0_2) (ix2 a j) = prj m c (row t a) ⟨384 + j.val, by omega⟩ :=
  (pay_k _ _ _ a j).trans ((Finset.sum_congr rfl fun k _ => mul_eq (hrow m c t a k) rfl).trans (prj_eq m c (row t a) _ _ fun k => ((ld_2 m c t k ⟨384 + j.val, by omega⟩).trans ((congrArg (V m c main_v29) (ix2_col k (by show (384 + j.val) = 384 + j.val; omega))).trans (entry_k m c k j)))))
theorem pay_z (x0 : Vec Ideal S512x1024 .f32) (x1 : Vec Ideal S1x1024 .f32) (w : Vec Ideal S1024x1536 .bf16) (a : Fin 512) (j : Fin 384) :
    k0_pay7 x0 x1 w (ix2 a j) = ∑ k : Fin 1024, @HMul.hMul EReal EReal EReal _ (k0_pay3 x0 x1 (ix2 a k)) (w (ix2 k ⟨768 + j.val, by omega⟩)) := by
  pointwise [k0_pay7, k0_pay4]
theorem pr_z (c : Dev nD) (t : Fin cfg0.N) (a : Fin 512) (j : Fin 384) :
    k0_pay7 (iblk m c 0 t) (iblk m c 1 t) (View.ld (iblk m c 2 t) r0_2) (ix2 a j) = prj m c (row t a) ⟨1152 + j.val, by omega⟩ :=
  (pay_z _ _ _ a j).trans ((Finset.sum_congr rfl fun k _ => mul_eq (hrow m c t a k) rfl).trans (prj_eq m c (row t a) _ _ fun k => ((ld_2 m c t k ⟨768 + j.val, by omega⟩).trans ((congrArg (V m c main_v29) (ix2_col k (by show (768 + j.val) = 768 + j.val; omega))).trans (entry_z m c k j)))))
theorem pay_iq (x0 : Vec Ideal S512x1024 .f32) (x1 : Vec Ideal S1x1024 .f32) (w : Vec Ideal S1024x1536 .bf16) (a : Fin 512) (j : Fin 256) :
    k0_pay8 x0 x1 w (ix2 a j) = ∑ k : Fin 1024, @HMul.hMul EReal EReal EReal _ (k0_pay3 x0 x1 (ix2 a k)) (w (ix2 k ⟨1152 + j.val, by omega⟩)) := by
  pointwise [k0_pay8, k0_pay4]
theorem pr_iq (c : Dev nD) (t : Fin cfg0.N) (a : Fin 512) (j : Fin 256) :
    k0_pay8 (iblk m c 0 t) (iblk m c 1 t) (View.ld (iblk m c 2 t) r0_2) (ix2 a j) = prj m c (row t a) ⟨1536 + j.val, by omega⟩ :=
  (pay_iq _ _ _ a j).trans ((Finset.sum_congr rfl fun k _ => mul_eq (hrow m c t a k) rfl).trans (prj_eq m c (row t a) _ _ fun k => ((ld_2 m c t k ⟨1152 + j.val, by omega⟩).trans ((congrArg (V m c main_v29) (ix2_col k (by show (1152 + j.val) = 1152 + j.val; omega))).trans (entry_iq m c k j)))))
theorem pay_ik (x0 : Vec Ideal S512x1024 .f32) (x1 : Vec Ideal S1x1024 .f32) (w : Vec Ideal S1024x1536 .bf16) (a : Fin 512) (j : Fin 128) :
    k0_pay9 x0 x1 w (ix2 a j) = ∑ k : Fin 1024, @HMul.hMul EReal EReal EReal _ (k0_pay3 x0 x1 (ix2 a k)) (w (ix2 k ⟨1408 + j.val, by omega⟩)) := by
  pointwise [k0_pay9, k0_pay4]
theorem pr_ik (c : Dev nD) (t : Fin cfg0.N) (a : Fin 512) (j : Fin 128) :
    k0_pay9 (iblk m c 0 t) (iblk m c 1 t) (View.ld (iblk m c 2 t) r0_2) (ix2 a j) = prj m c (row t a) ⟨1792 + j.val % 64, by omega⟩ :=
  (pay_ik _ _ _ a j).trans ((Finset.sum_congr rfl fun k _ => mul_eq (hrow m c t a k) rfl).trans (prj_eq m c (row t a) _ _ fun k => ((ld_2 m c t k ⟨1408 + j.val, by omega⟩).trans ((congrArg (V m c main_v29) (ix2_col k (by show (1408 + j.val) = 1408 + j.val; omega))).trans (entry_ik m c k j)))))
theorem pay_pu (x0 : Vec Ideal S512x1024 .f32) (x1 : Vec Ideal S1x1024 .f32) (w : Vec Ideal S1024x512 .bf16) (a : Fin 512) (j : Fin 256) :
    k0_pay11 x0 x1 w (ix2 a j) = ∑ k : Fin 1024, @HMul.hMul EReal EReal EReal _ (k0_pay3 x0 x1 (ix2 a k)) (w (ix2 k ⟨j.val, by omega⟩)) := by
  pointwise [k0_pay11, k0_pay10]
theorem pr_pu (c : Dev nD) (t : Fin cfg0.N) (a : Fin 512) (j : Fin 256) :
    k0_pay11 (iblk m c 0 t) (iblk m c 1 t) (View.ld (iblk m c 2 t) r0_3) (ix2 a j) = prj m c (row t a) ⟨1860 + j.val, by omega⟩ :=
  (pay_pu _ _ _ a j).trans ((Finset.sum_congr rfl fun k _ => mul_eq (hrow m c t a k) rfl).trans (prj_eq m c (row t a) _ _ fun k => ((ld_3 m c t k ⟨j.val, by omega⟩).trans ((congrArg (V m c main_v29) (ix2_col k (by show 1536 + (j.val) = 1536 + j.val; omega))).trans (entry_pu m c k j)))))
theorem pay_pz (x0 : Vec Ideal S512x1024 .f32) (x1 : Vec Ideal S1x1024 .f32) (w : Vec Ideal S1024x512 .bf16) (a : Fin 512) (j : Fin 256) :
    k0_pay12 x0 x1 w (ix2 a j) = ∑ k : Fin 1024, @HMul.hMul EReal EReal EReal _ (k0_pay3 x0 x1 (ix2 a k)) (w (ix2 k ⟨256 + j.val, by omega⟩)) := by
  pointwise [k0_pay12, k0_pay10]
theorem pr_pz (c : Dev nD) (t : Fin cfg0.N) (a : Fin 512) (j : Fin 256) :
    k0_pay12 (iblk m c 0 t) (iblk m c 1 t) (View.ld (iblk m c 2 t) r0_3) (ix2 a j) = prj m c (row t a) ⟨2116 + j.val, by omega⟩ :=
  (pay_pz _ _ _ a j).trans ((Finset.sum_congr rfl fun k _ => mul_eq (hrow m c t a k) rfl).trans (prj_eq m c (row t a) _ _ fun k => ((ld_3 m c t k ⟨256 + j.val, by omega⟩).trans ((congrArg (V m c main_v29) (ix2_col k (by show 1536 + (256 + j.val) = 1792 + j.val; omega))).trans (entry_pz m c k j)))))
theorem pay_gq (x0 : Vec Ideal S512x1024 .f32) (x1 : Vec Ideal S1x1024 .f32) (w : Vec Ideal S1024x512 .bf16) (a : Fin 512) (j : Fin 256) :
    k0_pay14 x0 x1 w (ix2 a j) = ∑ k : Fin 1024, @HMul.hMul EReal EReal EReal _ (k0_pay3 x0 x1 (ix2 a k)) (w (ix2 k ⟨j.val, by omega⟩)) := by
  pointwise [k0_pay14, k0_pay13]
theorem pr_gq (c : Dev nD) (t : Fin cfg0.N) (a : Fin 512) (j : Fin 256) :
    k0_pay14 (iblk m c 0 t) (iblk m c 1 t) (View.ld (iblk m c 2 t) r0_4) (ix2 a j) = if h : j.val % 64 < 48 then prj m c (row t a) ⟨2372 + (j.val / 64 * 48 + j.val % 64), by omega⟩ else 0 :=
  (pay_gq _ _ _ a j).trans ((Finset.sum_congr rfl fun k _ => mul_eq (hrow m c t a k) rfl).trans (prj_dite m c (row t a) _ _ _ fun k => ((ld_4 m c t k ⟨j.val, by omega⟩).trans ((congrArg (V m c main_v29) (ix2_col k (by show 2048 + (j.val) = 2048 + j.val; omega))).trans (entry_gq m c k j)))))
theorem pay_gk (x0 : Vec Ideal S512x1024 .f32) (x1 : Vec Ideal S1x1024 .f32) (w : Vec Ideal S1024x512 .bf16) (a : Fin 512) (j : Fin 256) :
    k0_pay15 x0 x1 w (ix2 a j) = ∑ k : Fin 1024, @HMul.hMul EReal EReal EReal _ (k0_pay3 x0 x1 (ix2 a k)) (w (ix2 k ⟨256 + j.val, by omega⟩)) := by
  pointwise [k0_pay15, k0_pay13]
theorem pr_gk (c : Dev nD) (t : Fin cfg0.N) (a : Fin 512) (j : Fin 256) :
    k0_pay15 (iblk m c 0 t) (iblk m c 1 t) (View.ld (iblk m c 2 t) r0_4) (ix2 a j) = if h : j.val % 64 < 48 then prj m c (row t a) ⟨2564 + (j.val / 64 * 48 + j.val % 64), by omega⟩ else 0 :=
  (pay_gk _ _ _ a j).trans ((Finset.sum_congr rfl fun k _ => mul_eq (hrow m c t a k) rfl).trans (prj_dite m c (row t a) _ _ _ fun k => ((ld_4 m c t k ⟨256 + j.val, by omega⟩).trans ((congrArg (V m c main_v29) (ix2_col k (by show 2048 + (256 + j.val) = 2304 + j.val; omega))).trans (entry_gk m c k j)))))
theorem pay_gv (x0 : Vec Ideal S512x1024 .f32) (x1 : Vec Ideal S1x1024 .f32) (w : Vec Ideal S1024x1024 .bf16) (a : Fin 512) (j : Fin 512) :
    k0_pay17 x0 x1 w (ix2 a j) = ∑ k : Fin 1024, @HMul.hMul EReal EReal EReal _ (k0_pay3 x0 x1 (ix2 a k)) (w (ix2 k ⟨j.val, by omega⟩)) := by
  pointwise [k0_pay17, k0_pay16]
theorem pr_gv (c : Dev nD) (t : Fin cfg0.N) (a : Fin 512) (j : Fin 512) :
    k0_pay17 (iblk m c 0 t) (iblk m c 1 t) (View.ld (iblk m c 2 t) r0_5) (ix2 a j) = if h : j.val % 128 < 96 then prj m c (row t a) ⟨2756 + (j.val / 128 * 96 + j.val % 128), by omega⟩ else 0 :=
  (pay_gv _ _ _ a j).trans ((Finset.sum_congr rfl fun k _ => mul_eq (hrow m c t a k) rfl).trans (prj_dite m c (row t a) _ _ _ fun k => ((ld_5 m c t k ⟨j.val, by omega⟩).trans ((congrArg (V m c main_v29) (ix2_col k (by show 2560 + (j.val) = 2560 + j.val; omega))).trans (entry_gv m c k j)))))
theorem pay_gz (x0 : Vec Ideal S512x1024 .f32) (x1 : Vec Ideal S1x1024 .f32) (w : Vec Ideal S1024x1024 .bf16) (a : Fin 512) (j : Fin 512) :
    k0_pay18 x0 x1 w (ix2 a j) = ∑ k : Fin 1024, @HMul.hMul EReal EReal EReal _ (k0_pay3 x0 x1 (ix2 a k)) (w (ix2 k ⟨512 + j.val, by omega⟩)) := by
  pointwise [k0_pay18, k0_pay16]
theorem pr_gz (c : Dev nD) (t : Fin cfg0.N) (a : Fin 512) (j : Fin 512) :
    k0_pay18 (iblk m c 0 t) (iblk m c 1 t) (View.ld (iblk m c 2 t) r0_5) (ix2 a j) = if h : j.val % 128 < 96 then prj m c (row t a) ⟨3156 + (j.val / 128 * 96 + j.val % 128), by omega⟩ else 0 :=
  (pay_gz _ _ _ a j).trans ((Finset.sum_congr rfl fun k _ => mul_eq (hrow m c t a k) rfl).trans (prj_dite m c (row t a) _ _ _ fun k => ((ld_5 m c t k ⟨512 + j.val, by omega⟩).trans ((congrArg (V m c main_v29) (ix2_col k (by show 2560 + (512 + j.val) = 3072 + j.val; omega))).trans (entry_gz m c k j)))))

theorem pay31_eq (x0 : Vec Ideal S512x1024 .f32) (x1 : Vec Ideal S1x1024 .f32) (x2 : Vec Ideal S1024x3712 .bf16) (x3 : Vec Ideal S392x1024 .bf16) (x4 x5 : Vec Ideal S1x384 .f32) (x6 : Vec Ideal S384x384 .bf16) (i : S512x1024.Idx) :
    k0_pay31 x0 x1 x2 x3 x4 x5 x6 i = k0_pay3 x0 x1 i := by
  have h0 : View.ld x0 r0_0 = x0 := View.ld_unit_zero (by funext a; fin_cases a <;> rfl) _ _
  have h1 : View.ld x1 r0_1 = x1 := View.ld_unit_zero (by funext a; fin_cases a <;> rfl) _ _
  exact congrFun (congrArg₂ k0_pay3 h0 h1) i
/-- The block's normalised rows, as the last products read them. -/
theorem hrow31 (c : Dev nD) (t : Fin cfg0.N) (a : Fin 512) (k : Fin 1024) :
    k0_pay31 (iblk m c 0 t) (iblk m c 1 t) (iblk m c 2 t) (iblk m c 3 t) (iblk m c 4 t) (iblk m c 5 t) (iblk m c 6 t) (ix2 a k) = hn m c (ix2 (row t a) k) :=
  (pay31_eq _ _ _ _ _ _ _ _).trans (hrow m c t a k)
theorem pay_gg (h : FVec Ideal S512x1024 .bf16) (w : Vec Ideal S1024x128 .bf16) (a : Fin 512) (j : Fin 128) :
    k0_pay19 h w (ix2 a j) = ∑ k : Fin 1024, @HMul.hMul EReal EReal EReal _ (h (ix2 a k)) (w (ix2 k j)) := by
  pointwise [k0_pay19]
theorem pr_gg (c : Dev nD) (t : Fin cfg0.N) (a : Fin 512) (j : Fin 128) :
    k0_pay19 (k0_pay31 (iblk m c 0 t) (iblk m c 1 t) (iblk m c 2 t) (iblk m c 3 t) (iblk m c 4 t) (iblk m c 5 t) (iblk m c 6 t)) (View.ld (iblk m c 2 t) r0_6) (ix2 a j)
      = if h : j.val < 16 then prj m c (row t a) ⟨3140 + j.val, by omega⟩ else 0 :=
  (pay_gg _ _ a j).trans ((Finset.sum_congr rfl fun k _ => mul_eq (hrow31 m c t a k) rfl).trans (prj_dite m c (row t a) _ _ _ fun k => ((ld_6 m c t k j).trans (entry_gg m c k j))))

end Cert.ProjIdeal.Val

end
-- ==== Proof.ProjPoints.lean ====
module

public import proofs.«01_k».proof.Proof.ProjFrame
public import proofs.«01_k».proof.Proof.Gen.ProjRefIdeal.Run
public import proofs.«01_k».proof.Proof.Gen.ProjRefIdeal.Read
public import proofs.«01_k».proof.Proof.ProjRows
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem tuple2 {a b : ℕ} (y : (⟨2, ![a, b]⟩ : Shape).Idx) : y = ix2 (y 0) (y 1) := by
  funext i; fin_cases i <;> rfl

theorem point_z (c : Dev nD) (t : Fin cfg0.N) (a : Fin 512) (j : Fin 384) :
    k0_pay22 (k0_pay7 (iblk m c 0 t) (iblk m c 1 t) (View.ld (iblk m c 2 t) r0_2)) (ix2 a j) = Cert.ProjRefIdeal.Read.val_main_v64 (F := Ideal) (m ((c : Thread nD τ).loc main_arg0)) (m ((c : Thread nD τ).loc main_arg1)) (m ((c : Thread nD τ).loc main_arg2)) (ix2 (row t a) j) := by
  have h := pr_z m c t a j
  generalize k0_pay7 (iblk m c 0 t) (iblk m c 1 t) (View.ld (iblk m c 2 t) r0_2) = p at h ⊢
  pointwise [k0_pay22, Cert.ProjRefIdeal.Read.val_main_v64, Cert.ProjRefIdeal.Read.val_main_call0_v5, Cert.ProjRefIdeal.Read.val_main_call0_v3, Cert.ProjRefIdeal.Read.val_main_call0_v1, Cert.ProjRefIdeal.Read.val_main_call0_v0, Cert.ProjRefIdeal.Read.val_main_v17, Cert.ProjRefIdeal.Read.val_main_call0_v2, Cert.ProjRefIdeal.Read.val_main_call0_cst, Cert.ProjRefIdeal.Read.val_main_call0_v4, Cert.ProjRefIdeal.Read.val_main_call0_cst_0]
  rw [h]
  rfl

theorem point_iq (c : Dev nD) (t : Fin cfg0.N) (a : Fin 512) (j : Fin 256) :
    k0_pay23 (k0_pay8 (iblk m c 0 t) (iblk m c 1 t) (View.ld (iblk m c 2 t) r0_2)) (ix2 a j) = Cert.ProjRefIdeal.Read.val_main_v65 (F := Ideal) (m ((c : Thread nD τ).loc main_arg0)) (m ((c : Thread nD τ).loc main_arg1)) (m ((c : Thread nD τ).loc main_arg2)) (ix2 (row t a) j) := by
  have h := pr_iq m c t a j
  generalize k0_pay8 (iblk m c 0 t) (iblk m c 1 t) (View.ld (iblk m c 2 t) r0_2) = p at h ⊢
  pointwise [k0_pay23, Cert.ProjRefIdeal.Read.val_main_v65, Cert.ProjRefIdeal.Read.val_main_v18]
  exact h

theorem point_ik (c : Dev nD) (t : Fin cfg0.N) (a : Fin 512) (j : Fin 128) :
    k0_pay24 (k0_pay9 (iblk m c 0 t) (iblk m c 1 t) (View.ld (iblk m c 2 t) r0_2)) (ix2 a j) = Cert.ProjRefIdeal.Read.val_main_v67 (F := Ideal) (m ((c : Thread nD τ).loc main_arg0)) (m ((c : Thread nD τ).loc main_arg1)) (m ((c : Thread nD τ).loc main_arg2)) (ix2 (row t a) j) := by
  have h := pr_ik m c t a j
  generalize k0_pay9 (iblk m c 0 t) (iblk m c 1 t) (View.ld (iblk m c 2 t) r0_2) = p at h ⊢
  pointwise [k0_pay24, Cert.ProjRefIdeal.Read.val_main_v67, Cert.ProjRefIdeal.Read.val_main_v66, Cert.ProjRefIdeal.Read.val_main_v19]
  refine h.trans ?_
  split_ifs with h1 h2
  · exact congrArg (fun k => prj m c (row t a) k) (show (⟨1792 + j.val % 64, by omega⟩ : Fin 3540) = ⟨1792 + j.val, by omega⟩ from Fin.ext (by show 1792 + j.val % 64 = 1792 + j.val; omega))
  · exact congrArg (fun k => prj m c (row t a) k) (show (⟨1792 + j.val % 64, by omega⟩ : Fin 3540) = ⟨1792 + (j.val - 64), by omega⟩ from Fin.ext (by show 1792 + j.val % 64 = 1792 + (j.val - 64); omega))
  · exact absurd rfl h2

theorem point_pu (c : Dev nD) (t : Fin cfg0.N) (a : Fin 512) (j : Fin 256) :
    k0_pay11 (iblk m c 0 t) (iblk m c 1 t) (View.ld (iblk m c 2 t) r0_3) (ix2 a j) = Cert.ProjRefIdeal.Read.val_main_v21 (F := Ideal) (m ((c : Thread nD τ).loc main_arg0)) (m ((c : Thread nD τ).loc main_arg1)) (m ((c : Thread nD τ).loc main_arg2)) (ix2 (row t a) j) := by
  have h := pr_pu m c t a j
  generalize k0_pay11 (iblk m c 0 t) (iblk m c 1 t) (View.ld (iblk m c 2 t) r0_3) = p at h ⊢
  pointwise [Cert.ProjRefIdeal.Read.val_main_v21]
  exact h

theorem point_pz (c : Dev nD) (t : Fin cfg0.N) (a : Fin 512) (j : Fin 256) :
    k0_pay25 (k0_pay12 (iblk m c 0 t) (iblk m c 1 t) (View.ld (iblk m c 2 t) r0_3)) (ix2 a j) = Cert.ProjRefIdeal.Read.val_main_v68 (F := Ideal) (m ((c : Thread nD τ).loc main_arg0)) (m ((c : Thread nD τ).loc main_arg1)) (m ((c : Thread nD τ).loc main_arg2)) (ix2 (row t a) j) := by
  have h := pr_pz m c t a j
  generalize k0_pay12 (iblk m c 0 t) (iblk m c 1 t) (View.ld (iblk m c 2 t) r0_3) = p at h ⊢
  pointwise [k0_pay25, Cert.ProjRefIdeal.Read.val_main_v68, Cert.ProjRefIdeal.Read.val_main_call1_v5, Cert.ProjRefIdeal.Read.val_main_call1_v3, Cert.ProjRefIdeal.Read.val_main_call1_v1, Cert.ProjRefIdeal.Read.val_main_call1_v0, Cert.ProjRefIdeal.Read.val_main_v22, Cert.ProjRefIdeal.Read.val_main_call1_v2, Cert.ProjRefIdeal.Read.val_main_call1_cst, Cert.ProjRefIdeal.Read.val_main_call1_v4, Cert.ProjRefIdeal.Read.val_main_call1_cst_0]
  rw [h]
  rfl

theorem point_gq (c : Dev nD) (t : Fin cfg0.N) (a : Fin 512) (j : Fin 256) :
    k0_pay14 (iblk m c 0 t) (iblk m c 1 t) (View.ld (iblk m c 2 t) r0_4) (ix2 a j) = Cert.ProjRefIdeal.Read.val_main_v71 (F := Ideal) (m ((c : Thread nD τ).loc main_arg0)) (m ((c : Thread nD τ).loc main_arg1)) (m ((c : Thread nD τ).loc main_arg2)) (ix2 (row t a) j) := by
  have h := pr_gq m c t a j
  generalize k0_pay14 (iblk m c 0 t) (iblk m c 1 t) (View.ld (iblk m c 2 t) r0_4) = p at h ⊢
  pointwise [Cert.ProjRefIdeal.Read.val_main_v71, Cert.ProjRefIdeal.Read.val_main_v70, Cert.ProjRefIdeal.Read.val_main_call2_v0, Cert.ProjRefIdeal.Read.val_main_c, Cert.ProjRefIdeal.Read.val_main_v69, Cert.ProjRefIdeal.Read.val_main_v23]
  refine h.trans ?_
  split_ifs with h1 h2 h2
  · rfl
  · exact absurd ⟨by omega, h1⟩ h2
  · exact absurd h2.2 h1
  · exact zero_word.symm

theorem point_gk (c : Dev nD) (t : Fin cfg0.N) (a : Fin 512) (j : Fin 256) :
    k0_pay15 (iblk m c 0 t) (iblk m c 1 t) (View.ld (iblk m c 2 t) r0_4) (ix2 a j) = Cert.ProjRefIdeal.Read.val_main_v74 (F := Ideal) (m ((c : Thread nD τ).loc main_arg0)) (m ((c : Thread nD τ).loc main_arg1)) (m ((c : Thread nD τ).loc main_arg2)) (ix2 (row t a) j) := by
  have h := pr_gk m c t a j
  generalize k0_pay15 (iblk m c 0 t) (iblk m c 1 t) (View.ld (iblk m c 2 t) r0_4) = p at h ⊢
  pointwise [Cert.ProjRefIdeal.Read.val_main_v74, Cert.ProjRefIdeal.Read.val_main_v73, Cert.ProjRefIdeal.Read.val_main_call3_v0, Cert.ProjRefIdeal.Read.val_main_c_10, Cert.ProjRefIdeal.Read.val_main_v72, Cert.ProjRefIdeal.Read.val_main_v24]
  refine h.trans ?_
  split_ifs with h1 h2 h2
  · rfl
  · exact absurd ⟨by omega, h1⟩ h2
  · exact absurd h2.2 h1
  · exact zero_word.symm

theorem point_gv (c : Dev nD) (t : Fin cfg0.N) (a : Fin 512) (j : Fin 512) :
    k0_pay26 (k0_pay17 (iblk m c 0 t) (iblk m c 1 t) (View.ld (iblk m c 2 t) r0_5)) (ix2 a j) = Cert.ProjRefIdeal.Read.val_main_v78 (F := Ideal) (m ((c : Thread nD τ).loc main_arg0)) (m ((c : Thread nD τ).loc main_arg1)) (m ((c : Thread nD τ).loc main_arg2)) (ix2 (row t a) j) := by
  have h := pr_gv m c t a j
  generalize k0_pay17 (iblk m c 0 t) (iblk m c 1 t) (View.ld (iblk m c 2 t) r0_5) = p at h ⊢
  pointwise [k0_pay26, Cert.ProjRefIdeal.Read.val_main_v78, Cert.ProjRefIdeal.Read.val_main_v77, Cert.ProjRefIdeal.Read.val_main_v76, Cert.ProjRefIdeal.Read.val_main_call4_v0, Cert.ProjRefIdeal.Read.val_main_c_11, Cert.ProjRefIdeal.Read.val_main_v75, Cert.ProjRefIdeal.Read.val_main_v25]
  refine h.trans ?_
  split_ifs with h1 h2 h2
  · rfl
  · exact absurd ⟨by omega, h1⟩ h2
  · exact absurd h2.2 h1
  · exact zero_word.symm

set_option maxHeartbeats 1000000 in
theorem point_gz (c : Dev nD) (t : Fin cfg0.N) (a : Fin 512) (j : Fin 512) :
    k0_pay27 (k0_pay18 (iblk m c 0 t) (iblk m c 1 t) (View.ld (iblk m c 2 t) r0_5)) (ix2 a j) = Cert.ProjRefIdeal.Read.val_main_v82 (F := Ideal) (m ((c : Thread nD τ).loc main_arg0)) (m ((c : Thread nD τ).loc main_arg1)) (m ((c : Thread nD τ).loc main_arg2)) (ix2 (row t a) j) := by
  have h := pr_gz m c t a j
  generalize k0_pay18 (iblk m c 0 t) (iblk m c 1 t) (View.ld (iblk m c 2 t) r0_5) = p at h ⊢
  pointwise [k0_pay27, Cert.ProjRefIdeal.Read.val_main_v82, Cert.ProjRefIdeal.Read.val_main_v81, Cert.ProjRefIdeal.Read.val_main_call6_v0, Cert.ProjRefIdeal.Read.val_main_c_12, Cert.ProjRefIdeal.Read.val_main_v80, Cert.ProjRefIdeal.Read.val_main_v79, Cert.ProjRefIdeal.Read.val_main_call5_v5, Cert.ProjRefIdeal.Read.val_main_call5_v3, Cert.ProjRefIdeal.Read.val_main_call5_v1, Cert.ProjRefIdeal.Read.val_main_call5_v0, Cert.ProjRefIdeal.Read.val_main_v27, Cert.ProjRefIdeal.Read.val_main_call5_v2, Cert.ProjRefIdeal.Read.val_main_call5_cst, Cert.ProjRefIdeal.Read.val_main_call5_v4, Cert.ProjRefIdeal.Read.val_main_call5_cst_0]
  rw [h]
  split_ifs with h1 h2 h2
  · rfl
  · exact absurd ⟨by omega, h1⟩ h2
  · exact absurd h2.2 h1
  · exact (zero_mul _).trans zero_word.symm

theorem point_gg (c : Dev nD) (t : Fin cfg0.N) (a : Fin 512) (j : Fin 128) :
    k0_pay19 (k0_pay31 (iblk m c 0 t) (iblk m c 1 t) (iblk m c 2 t) (iblk m c 3 t) (iblk m c 4 t) (iblk m c 5 t) (iblk m c 6 t)) (View.ld (iblk m c 2 t) r0_6) (ix2 a j) = Cert.ProjRefIdeal.Read.val_main_v83 (F := Ideal) (m ((c : Thread nD τ).loc main_arg0)) (m ((c : Thread nD τ).loc main_arg1)) (m ((c : Thread nD τ).loc main_arg2)) (ix2 (row t a) j) := by
  have h := pr_gg m c t a j
  generalize k0_pay19 (k0_pay31 (iblk m c 0 t) (iblk m c 1 t) (iblk m c 2 t) (iblk m c 3 t) (iblk m c 4 t) (iblk m c 5 t) (iblk m c 6 t)) (View.ld (iblk m c 2 t) r0_6) = p at h ⊢
  pointwise [Cert.ProjRefIdeal.Read.val_main_v83, Cert.ProjRefIdeal.Read.val_main_call7_v0, Cert.ProjRefIdeal.Read.val_main_c_13, Cert.ProjRefIdeal.Read.val_main_v26]
  refine h.trans ?_
  split_ifs with h1
  · rfl
  · exact zero_word.symm

end Cert.ProjIdeal.Val

end
-- ==== Proof.ProjSums.lean ====
module

public import Idealize.ShloMosaic.Lib.Pipeline.ValueKit
public import Idealize.ShloMosaic.Lib.IdealHost

@[expose] public section

noncomputable section

namespace Cert.ProjIdeal.Val

open Idealize.ShloMosaic

/-- A finite factor that is not negative comes out of a finite sum. -/
theorem sum_mul_const {n : ℕ} (f : Fin n → EReal) (r : ℝ) (hr : 0 ≤ r) : ∑ k, f k * (r : EReal) = (∑ k, f k) * (r : EReal) := by
  induction n with
  | zero => simp
  | succ n ih =>
    rw [Fin.sum_univ_castSucc, Fin.sum_univ_castSucc (f := f), ih,
      EReal.right_distrib_of_nonneg_of_ne_top (EReal.coe_nonneg.mpr hr) (EReal.coe_ne_top r)]

/-- Of 384 terms, those of one head of 64 columns. -/
theorem sum_head (g : Fin 384 → EReal) (j : Fin 384) :
    ∑ x : Fin 384, (if x.val / 64 = j.val / 64 then g x else 0) = ∑ y : Fin 64, g ⟨j.val / 64 * 64 + y.val, by omega⟩ := by
  symm
  refine Finset.sum_of_injOn (fun y : Fin 64 => (⟨j.val / 64 * 64 + y.val, by omega⟩ : Fin 384)) ?_ ?_ ?_ ?_
  · intro a _ b _ h
    have h' : j.val / 64 * 64 + a.val = j.val / 64 * 64 + b.val := congrArg Fin.val h
    exact Fin.ext (by omega)
  · intro k _; exact Finset.mem_coe.2 (Finset.mem_univ _)
  · intro k _ hk
    rw [if_neg]
    intro h
    refine hk ⟨⟨k.val % 64, by omega⟩, Finset.mem_coe.2 (Finset.mem_univ _), Fin.ext ?_⟩
    show j.val / 64 * 64 + k.val % 64 = k.val
    omega
  · intro k _
    rw [if_pos (by show (j.val / 64 * 64 + k.val) / 64 = j.val / 64; omega)]

theorem bits_64 : Ideal.ofBits .f32 0x42800000#32 = ((64 : ℝ) : EReal) := by
  simp [Ideal.ofBits, Ideal.ieee, -EReal.coe_mul]; norm_num
theorem bits_64th : Ideal.ofBits .f32 0x3C800000#32 = ((1 / 64 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num

/-- Averaging over a head by a product with the averaging matrix. -/
theorem head_mean (g : Fin 384 → EReal) (u : Fin 384 → EReal) (j : Fin 384)
    (hu : ∀ x : Fin 384, u x = if x.val / 64 = j.val / 64 then Ideal.ofBits .f32 0x3C800000#32 else 0) :
    ∑ x : Fin 384, g x * u x
      = Ideal.div (∑ y : Fin 64, g ⟨j.val / 64 * 64 + y.val, by omega⟩) (Ideal.ofBits .f32 0x42800000#32) := by
  have h : ∀ x : Fin 384, g x * u x = if x.val / 64 = j.val / 64 then g x * ((1 / 64 : ℝ) : EReal) else 0 := by
    intro x
    rw [hu x, bits_64th]
    split_ifs
    · rfl
    · exact mul_zero _
  rw [Finset.sum_congr rfl fun x _ => h x, sum_head (fun x => g x * ((1 / 64 : ℝ) : EReal)) j, bits_64,
    Ideal.div_coe (by norm_num), sum_mul_const _ _ (by norm_num)]

end Cert.ProjIdeal.Val

end
-- ==== Proof.ProjPointsB.lean ====
module

public import proofs.«01_k».proof.Proof.ProjFrame
public import proofs.«01_k».proof.Proof.Gen.ProjRefIdeal.Run
public import proofs.«01_k».proof.Proof.Gen.ProjRefIdeal.Read
public import proofs.«01_k».proof.Proof.ProjRows
public import proofs.«01_k».proof.Proof.ProjSums
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem pay_w (h : FVec Ideal S512x1024 .bf16) (w : Vec Ideal S392x1024 .bf16) (e : Fin 392) (a : Fin 512) :
    k0_pay28 h w (ix2 e a) = ∑ k : Fin 1024, @HMul.hMul EReal EReal EReal _ (w (ix2 e k)) (h (ix2 a k)) := by
  pointwise [k0_pay28]
theorem lay_lo (h : FVec Ideal S512x1024 .bf16) (w : Vec Ideal S392x1024 .bf16) (e : Fin 384) (a : Fin 256) :
    k0_pay29 h w (ix3 0 e a) = k0_pay28 h w (ix2 ⟨e.val, by omega⟩ ⟨a.val, by omega⟩) := by
  generalize hp : k0_pay28 h w = p
  pointwise [k0_pay29]
  rw [hp]
theorem lay_hi (h : FVec Ideal S512x1024 .bf16) (w : Vec Ideal S392x1024 .bf16) (e : Fin 384) (a : Fin 256) :
    k0_pay1 (k0_pay30 h w) (ix3 0 e a) = k0_pay28 h w (ix2 ⟨e.val, by omega⟩ ⟨256 + a.val, by omega⟩) := by
  pointwise [k0_pay1, k0_pay30]
theorem lay_iw (p : FVec Ideal S392x512 .f32) (e : Fin 8) (a : Fin 512) :
    k0_pay2 p (ix2 e a) = p (ix2 ⟨384 + e.val, by omega⟩ a) := by
  pointwise [k0_pay2]
theorem in3 (c : Dev nD) (t : Fin cfg0.N) (e : Fin 392) (k : Fin 1024) : iblk m c 3 t (ix2 e k) = V m c main_v36 (ix2 e k) := by
  blk_simp [iblk]
  generalize V m c main_v36 = g
  blk_ext [idx t]
theorem in4 (c : Dev nD) (t : Fin cfg0.N) (k : Fin 384) : iblk m c 4 t (ix2 0 k) = V m c main_v42 (ix2 0 k) := by
  blk_simp [iblk]
  generalize V m c main_v42 = g
  blk_ext [idx t]
theorem in5 (c : Dev nD) (t : Fin cfg0.N) (k : Fin 384) : iblk m c 5 t (ix2 0 k) = V m c main_v46 (ix2 0 k) := by
  blk_simp [iblk]
  generalize V m c main_v46 = g
  blk_ext [idx t]
theorem in6 (c : Dev nD) (t : Fin cfg0.N) (e k : Fin 384) : iblk m c 6 t (ix2 e k) = V m c main_v55 (ix2 e k) := by
  blk_simp [iblk]
  generalize V m c main_v55 = g
  blk_ext [idx t]
theorem norm_q (p : FVec Ideal S512x384 .f32) (g : Vec Ideal S1x384 .f32) (u : Vec Ideal S384x384 .bf16) (a : Fin 512) (j : Fin 384) :
    k0_pay20 p g u (ix2 a j) = @HMul.hMul EReal EReal EReal _ (@HMul.hMul EReal EReal EReal _ (p (ix2 a j)) (Ideal.rsqrt (@HAdd.hAdd EReal EReal EReal _ (∑ x : Fin 384, @HMul.hMul EReal EReal EReal _ (@HMul.hMul EReal EReal EReal _ (p (ix2 a x)) (p (ix2 a x))) (u (ix2 x j))) (Ideal.ofBits .f32 0x358637BD#32)))) (g (ix2 0 j)) := by
  pointwise [k0_pay20]
theorem norm_k (p : FVec Ideal S512x384 .f32) (g : Vec Ideal S1x384 .f32) (u : Vec Ideal S384x384 .bf16) (a : Fin 512) (j : Fin 384) :
    k0_pay21 p g u (ix2 a j) = k0_pay20 p g u (ix2 a j) := rfl
/-- A head's normalisation, the mean taken over the head's 64 columns. -/
def nrm (f : Fin 384 → EReal) (j : Fin 384) : EReal :=
  f j * Ideal.rsqrt (Ideal.div (∑ y : Fin 64, f ⟨j.val / 64 * 64 + y.val, by omega⟩ * f ⟨j.val / 64 * 64 + y.val, by omega⟩) (Ideal.ofBits .f32 0x42800000#32) + Ideal.ofBits .f32 0x358637BD#32)
theorem norm_eq (c : Dev nD) (t : Fin cfg0.N) (p : FVec Ideal S512x384 .f32) (g : Vec Ideal S1x384 .f32) (a : Fin 512) (j : Fin 384) (f : Fin 384 → EReal)
    (hf : ∀ x, p (ix2 a x) = f x) :
    k0_pay20 p g (iblk m c 6 t) (ix2 a j) = @HMul.hMul EReal EReal EReal _ (nrm f j) (g (ix2 0 j)) := by
  refine (norm_q p g _ a j).trans ?_
  have hu : ∀ x : Fin 384, iblk m c 6 t (ix2 x j) = if x.val / 64 = j.val / 64 then Ideal.ofBits .f32 0x3C800000#32 else (0 : EReal) :=
    fun x => (in6 m c t x j).trans (entry_gm m c x j)
  generalize iblk m c 6 t = u at hu ⊢
  have h := head_mean (fun x => f x * f x) (fun x => u (ix2 x j)) j hu
  simp only [hf]
  unfold nrm
  exact congrArg (fun s => f j * Ideal.rsqrt (s + Ideal.ofBits .f32 0x358637BD#32) * (g (ix2 0 j) : EReal)) h
theorem ref_q (c : Dev nD) (r : Fin 65536) (j : Fin 384) :
    Cert.ProjRefIdeal.Read.val_main_v62 (F := Ideal) (m ((c : Thread nD τ).loc main_arg0)) (m ((c : Thread nD τ).loc main_arg1)) (m ((c : Thread nD τ).loc main_arg2)) (m ((c : Thread nD τ).loc main_arg3)) (ix2 r j) = @HMul.hMul EReal EReal EReal _ (@HMul.hMul EReal EReal EReal _ (nrm (fun x => prj m c r ⟨0 + x.val, by omega⟩) j) ((m ((c : Thread nD τ).loc main_arg3) : FVec Ideal S64 .f32) (ix1 ⟨j.val % 64, by omega⟩))) (Ideal.ofBits .f32 0x3E000000#32) := by
  pointwise [Cert.ProjRefIdeal.Read.val_main_v62, Cert.ProjRefIdeal.Read.val_main_v44, Cert.ProjRefIdeal.Read.val_main_v43, Cert.ProjRefIdeal.Read.val_main_v42, Cert.ProjRefIdeal.Read.val_main_cst_5, Cert.ProjRefIdeal.Read.val_main_v41, Cert.ProjRefIdeal.Read.val_main_v40, Cert.ProjRefIdeal.Read.val_main_v39, Cert.ProjRefIdeal.Read.val_main_v38, Cert.ProjRefIdeal.Read.val_main_v37, Cert.ProjRefIdeal.Read.val_main_v36, Cert.ProjRefIdeal.Read.val_main_v35, Cert.ProjRefIdeal.Read.val_main_v34, Cert.ProjRefIdeal.Read.val_main_cst_4, Cert.ProjRefIdeal.Read.val_main_v33, Cert.ProjRefIdeal.Read.val_main_v32, Cert.ProjRefIdeal.Read.val_main_cst_3, Cert.ProjRefIdeal.Read.val_main_v31, Cert.ProjRefIdeal.Read.val_main_v30, Cert.ProjRefIdeal.Read.val_main_cst_2, Cert.ProjRefIdeal.Read.val_main_v29, Cert.ProjRefIdeal.Read.val_main_v28, Cert.ProjRefIdeal.Read.val_main_v14]
  unfold nrm
  simp only [zero_add, Nat.zero_add]
theorem ref_k (c : Dev nD) (r : Fin 65536) (j : Fin 384) :
    Cert.ProjRefIdeal.Read.val_main_v63 (F := Ideal) (m ((c : Thread nD τ).loc main_arg0)) (m ((c : Thread nD τ).loc main_arg1)) (m ((c : Thread nD τ).loc main_arg2)) (m ((c : Thread nD τ).loc main_arg4)) (ix2 r j) = @HMul.hMul EReal EReal EReal _ (nrm (fun x => prj m c r ⟨384 + x.val, by omega⟩) j) ((m ((c : Thread nD τ).loc main_arg4) : FVec Ideal S64 .f32) (ix1 ⟨j.val % 64, by omega⟩)) := by
  pointwise [Cert.ProjRefIdeal.Read.val_main_v63, Cert.ProjRefIdeal.Read.val_main_v59, Cert.ProjRefIdeal.Read.val_main_v58, Cert.ProjRefIdeal.Read.val_main_v57, Cert.ProjRefIdeal.Read.val_main_v56, Cert.ProjRefIdeal.Read.val_main_v55, Cert.ProjRefIdeal.Read.val_main_v54, Cert.ProjRefIdeal.Read.val_main_v53, Cert.ProjRefIdeal.Read.val_main_v52, Cert.ProjRefIdeal.Read.val_main_v51, Cert.ProjRefIdeal.Read.val_main_cst_8, Cert.ProjRefIdeal.Read.val_main_v50, Cert.ProjRefIdeal.Read.val_main_v49, Cert.ProjRefIdeal.Read.val_main_cst_7, Cert.ProjRefIdeal.Read.val_main_v48, Cert.ProjRefIdeal.Read.val_main_v47, Cert.ProjRefIdeal.Read.val_main_cst_6, Cert.ProjRefIdeal.Read.val_main_v46, Cert.ProjRefIdeal.Read.val_main_v45, Cert.ProjRefIdeal.Read.val_main_v15]
  rfl
theorem ref_vt (c : Dev nD) (b : Fin 256) (e : Fin 384) (j : Fin 256) :
    Cert.ProjRefIdeal.Read.val_main_v86 (F := Ideal) (m ((c : Thread nD τ).loc main_arg0)) (m ((c : Thread nD τ).loc main_arg1)) (m ((c : Thread nD τ).loc main_arg2)) (ix3 b e j) = prj m c ⟨b.val * 256 + j.val, by omega⟩ ⟨768 + e.val, by omega⟩ := by
  pointwise [Cert.ProjRefIdeal.Read.val_main_v86, Cert.ProjRefIdeal.Read.val_main_v85, Cert.ProjRefIdeal.Read.val_main_v84, Cert.ProjRefIdeal.Read.val_main_v16]
theorem ref_iw (c : Dev nD) (e : Fin 8) (r : Fin 65536) :
    Cert.ProjRefIdeal.Read.val_main_v88 (F := Ideal) (m ((c : Thread nD τ).loc main_arg0)) (m ((c : Thread nD τ).loc main_arg1)) (m ((c : Thread nD τ).loc main_arg2)) (ix2 e r) = if h : e.val < 4 then @HMul.hMul EReal EReal EReal _ (prj m c r ⟨1856 + e.val, by omega⟩) (Ideal.ofBits .f32 0x3F000000#32) else (0 : EReal) := by
  pointwise [Cert.ProjRefIdeal.Read.val_main_v88, Cert.ProjRefIdeal.Read.val_main_call8_v0, Cert.ProjRefIdeal.Read.val_main_c_14, Cert.ProjRefIdeal.Read.val_main_v87, Cert.ProjRefIdeal.Read.val_main_v61, Cert.ProjRefIdeal.Read.val_main_v60, Cert.ProjRefIdeal.Read.val_main_cst_9, Cert.ProjRefIdeal.Read.val_main_v20]
  rw [zero_word]
theorem point_q (c : Dev nD) (t : Fin cfg0.N) (a : Fin 512) (j : Fin 384) :
    k0_pay20 (k0_pay5 (iblk m c 0 t) (iblk m c 1 t) (View.ld (iblk m c 2 t) r0_2)) (iblk m c 4 t) (iblk m c 6 t) (ix2 a j)
      = Cert.ProjRefIdeal.Read.val_main_v62 (F := Ideal) (m ((c : Thread nD τ).loc main_arg0)) (m ((c : Thread nD τ).loc main_arg1)) (m ((c : Thread nD τ).loc main_arg2)) (m ((c : Thread nD τ).loc main_arg3)) (ix2 (row t a) j) :=
  (norm_eq m c t _ _ a j _ fun x => pr_q m c t a x).trans
    ((mul_eq rfl ((in4 m c t j).trans (entry_qg m c j))).trans ((mul_assoc _ _ _).symm.trans (ref_q m c (row t a) j).symm))
theorem point_k (c : Dev nD) (t : Fin cfg0.N) (a : Fin 512) (j : Fin 384) :
    k0_pay21 (k0_pay6 (iblk m c 0 t) (iblk m c 1 t) (View.ld (iblk m c 2 t) r0_2)) (iblk m c 5 t) (iblk m c 6 t) (ix2 a j)
      = Cert.ProjRefIdeal.Read.val_main_v63 (F := Ideal) (m ((c : Thread nD τ).loc main_arg0)) (m ((c : Thread nD τ).loc main_arg1)) (m ((c : Thread nD τ).loc main_arg2)) (m ((c : Thread nD τ).loc main_arg4)) (ix2 (row t a) j) :=
  (norm_k _ _ _ a j).trans ((norm_eq m c t _ _ a j _ fun x => pr_k m c t a x).trans
    ((mul_eq rfl ((in5 m c t j).trans (entry_kg m c j))).trans (ref_k m c (row t a) j).symm))
/-- A value column's product with a row, the factors in the other order. -/
theorem point_w (c : Dev nD) (t : Fin cfg0.N) (e : Fin 384) (a : Fin 512) :
    k0_pay28 (k0_pay31 (iblk m c 0 t) (iblk m c 1 t) (iblk m c 2 t) (iblk m c 3 t) (iblk m c 4 t) (iblk m c 5 t) (iblk m c 6 t)) (iblk m c 3 t) (ix2 ⟨e.val, by omega⟩ a) = prj m c (row t a) ⟨768 + e.val, by omega⟩ :=
  (pay_w _ _ _ a).trans ((Finset.sum_congr rfl fun k _ => (mul_eq ((in3 m c t _ k).trans (entry_wv m c e k)) (hrow31 m c t a k)).trans (mul_comm _ _)).trans
    (prj_eq m c (row t a) ⟨768 + e.val, by omega⟩ _ fun k => rfl))
theorem point_iw (c : Dev nD) (t : Fin cfg0.N) (e : Fin 8) (a : Fin 512) :
    k0_pay2 (k0_pay28 (k0_pay31 (iblk m c 0 t) (iblk m c 1 t) (iblk m c 2 t) (iblk m c 3 t) (iblk m c 4 t) (iblk m c 5 t) (iblk m c 6 t)) (iblk m c 3 t)) (ix2 e a) = Cert.ProjRefIdeal.Read.val_main_v88 (F := Ideal) (m ((c : Thread nD τ).loc main_arg0)) (m ((c : Thread nD τ).loc main_arg1)) (m ((c : Thread nD τ).loc main_arg2)) (ix2 e (row t a)) := by
  refine (lay_iw _ e a).trans ((pay_w _ _ _ a).trans ?_)
  refine Eq.trans ?_ (ref_iw m c e (row t a)).symm
  refine (Finset.sum_congr rfl fun k _ => (mul_eq ((in3 m c t _ k).trans (entry_wi m c e k)) (hrow31 m c t a k))).trans ?_
  by_cases h : e.val < 4
  · refine Eq.trans ?_ (dif_pos h).symm
    refine Eq.trans (Finset.sum_congr rfl fun k _ => (mul_eq (dif_pos h) rfl).trans (Eq.trans ?_ (congrArg (fun z => @HMul.hMul EReal EReal EReal _ (@HMul.hMul EReal EReal EReal _ (hn m c (ix2 (row t a) k)) ((m ((c : Thread nD τ).loc main_arg2) : FVec Ideal S1024x3540 .f32) (ix2 k ⟨1856 + e.val, by omega⟩))) z) bits_half))) ?_
    · exact (mul_comm _ _).trans (mul_assoc _ _ _).symm
    · refine (sum_mul_const _ _ (by norm_num)).trans ?_
      exact mul_eq (prj_eq m c (row t a) ⟨1856 + e.val, by omega⟩ _ fun k => rfl) bits_half.symm
  · refine Eq.trans ?_ (dif_neg h).symm
    exact Finset.sum_eq_zero fun k _ => (mul_eq (dif_neg h) rfl).trans (zero_mul _)
/-- What the two pieces of a transposed value block hold, by block index. -/
def both (p : FVec Ideal S392x512 .f32) : FVec Ideal S2x384x256 .bf16 := fun y =>
  p (ix2 ⟨(y 1).val, by have h : (y 1).val < 384 := (y 1).isLt; omega⟩ ⟨(y 0).val * 256 + (y 2).val, by
    have h : (y 0).val < 2 := (y 0).isLt
    have h' : (y 2).val < 256 := (y 2).isLt
    omega⟩)
theorem canon_both (h : FVec Ideal S512x1024 .bf16) (w : Vec Ideal S392x1024 .bf16) (y : S2x384x256.Idx) :
    View.canon ([⟨r0_15, k0_pay1 (k0_pay30 h w)⟩, ⟨r0_14, k0_pay29 h w⟩] : List (View.Piece (Elt Ideal) S2x384x256 .bf16)) y = both (k0_pay28 h w) y := by
  refine View.canon_apply_of_pieces (Val := Elt Ideal) (both (k0_pay28 h w)) _ ?_ y (cover0_19 _ _ y)
  intro pc hpc
  rcases List.mem_cons.mp hpc with rfl | hpc
  · intro x
    have hx : x = ix3 0 (x 1) (x 2) := by funext i; fin_cases i <;> first | rfl | exact Fin.ext (by have h0 : (x 0).val < 1 := (x 0).isLt; show (x 0).val = 0; omega)
    rw [hx]
    refine (lay_hi h w (x 1) (x 2)).trans ?_
    generalize k0_pay28 h w = p
    refine congrArg p ?_
    funext i; fin_cases i <;> exact Fin.ext (by simp [r0_15])
  rcases List.mem_cons.mp hpc with rfl | hpc
  · intro x
    have hx : x = ix3 0 (x 1) (x 2) := by funext i; fin_cases i <;> first | rfl | exact Fin.ext (by have h0 : (x 0).val < 1 := (x 0).isLt; show (x 0).val = 0; omega)
    rw [hx]
    refine (lay_lo h w (x 1) (x 2)).trans ?_
    generalize k0_pay28 h w = p
    refine congrArg p ?_
    funext i; fin_cases i <;> exact Fin.ext (by simp [r0_14])
  nomatch hpc
theorem point_vt (c : Dev nD) (t : Fin cfg0.N) (b : Fin 2) (e : Fin 384) (j : Fin 256) (ht : t.val * 2 + b.val < 256) :
    View.canon ([⟨r0_15, k0_pay1 (k0_pay30 (k0_pay31 (iblk m c 0 t) (iblk m c 1 t) (iblk m c 2 t) (iblk m c 3 t) (iblk m c 4 t) (iblk m c 5 t) (iblk m c 6 t)) (iblk m c 3 t))⟩, ⟨r0_14, k0_pay29 (k0_pay31 (iblk m c 0 t) (iblk m c 1 t) (iblk m c 2 t) (iblk m c 3 t) (iblk m c 4 t) (iblk m c 5 t) (iblk m c 6 t)) (iblk m c 3 t)⟩] : List (View.Piece (Elt Ideal) S2x384x256 .bf16)) (ix3 b e j)
      = Cert.ProjRefIdeal.Read.val_main_v86 (F := Ideal) (m ((c : Thread nD τ).loc main_arg0)) (m ((c : Thread nD τ).loc main_arg1)) (m ((c : Thread nD τ).loc main_arg2)) (ix3 ⟨t.val * 2 + b.val, ht⟩ e j) := by
  refine (canon_both _ _ _).trans ((point_w m c t e ⟨b.val * 256 + j.val, by omega⟩).trans ?_)
  refine Eq.trans ?_ (ref_vt m c ⟨t.val * 2 + b.val, ht⟩ e j).symm
  exact congrArg (fun r => prj m c r ⟨768 + e.val, by omega⟩) (Fin.ext (by show t.val * 512 + (b.val * 256 + j.val) = (t.val * 2 + b.val) * 256 + j.val; omega))

end Cert.ProjIdeal.Val

end
-- ==== Proof.ProjValueA.lean ====
module

public import proofs.«01_k».proof.Proof.ProjFrame
public import proofs.«01_k».proof.Proof.Gen.ProjRefIdeal.Run
public import proofs.«01_k».proof.Proof.Gen.ProjRefIdeal.Read
public import proofs.«01_k».proof.Proof.ProjPoints
public import proofs.«01_k».proof.Proof.ProjPointsB
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem final_q (c : Dev nD) : (dats m 0 c).arrAt 7 (cfgs 0).N = Cert.ProjRefIdeal.Read.val_main_v62 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  obtain ⟨a, j, rfl⟩ : ∃ (a : Fin 512) (j : Fin 384), y = ix2 a j := ⟨y 0, y 1, by funext i; fin_cases i <;> rfl⟩
  have hy : ((cfg0.win 7).blk t).view.emb (ix2 a j) = ix2 (row t a) j := by blk_ext [idx t, row]
  have key := point_q m c t a j
  generalize Cert.ProjRefIdeal.Read.val_main_v62 (F := Ideal) (m ((c : Thread nD τ).loc main_arg0)) (m ((c : Thread nD τ).loc main_arg1)) (m ((c : Thread nD τ).loc main_arg2)) (m ((c : Thread nD τ).loc main_arg3)) = g at key ⊢
  blk_simp
  rw [after0_7]
  frame_out
  exact key.trans (congrArg g hy.symm)

theorem final_k (c : Dev nD) : (dats m 0 c).arrAt 8 (cfgs 0).N = Cert.ProjRefIdeal.Read.val_main_v63 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  obtain ⟨a, j, rfl⟩ : ∃ (a : Fin 512) (j : Fin 384), y = ix2 a j := ⟨y 0, y 1, by funext i; fin_cases i <;> rfl⟩
  have hy : ((cfg0.win 8).blk t).view.emb (ix2 a j) = ix2 (row t a) j := by blk_ext [idx t, row]
  have key := point_k m c t a j
  generalize Cert.ProjRefIdeal.Read.val_main_v63 (F := Ideal) (m ((c : Thread nD τ).loc main_arg0)) (m ((c : Thread nD τ).loc main_arg1)) (m ((c : Thread nD τ).loc main_arg2)) (m ((c : Thread nD τ).loc main_arg4)) = g at key ⊢
  blk_simp
  rw [after0_8]
  frame_out
  exact key.trans (congrArg g hy.symm)

theorem final_z (c : Dev nD) : (dats m 0 c).arrAt 9 (cfgs 0).N = Cert.ProjRefIdeal.Read.val_main_v64 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  obtain ⟨a, j, rfl⟩ : ∃ (a : Fin 512) (j : Fin 384), y = ix2 a j := ⟨y 0, y 1, by funext i; fin_cases i <;> rfl⟩
  have hy : ((cfg0.win 9).blk t).view.emb (ix2 a j) = ix2 (row t a) j := by blk_ext [idx t, row]
  have key := point_z m c t a j
  generalize Cert.ProjRefIdeal.Read.val_main_v64 (F := Ideal) (m ((c : Thread nD τ).loc main_arg0)) (m ((c : Thread nD τ).loc main_arg1)) (m ((c : Thread nD τ).loc main_arg2)) = g at key ⊢
  blk_simp
  rw [after0_9]
  frame_out
  exact key.trans (congrArg g hy.symm)

end Cert.ProjIdeal.Val

end
-- ==== Proof.ProjValueB.lean ====
module

public import proofs.«01_k».proof.Proof.ProjFrame
public import proofs.«01_k».proof.Proof.Gen.ProjRefIdeal.Run
public import proofs.«01_k».proof.Proof.Gen.ProjRefIdeal.Read
public import proofs.«01_k».proof.Proof.ProjPoints
public import proofs.«01_k».proof.Proof.ProjPointsB
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem final_iq (c : Dev nD) : (dats m 0 c).arrAt 10 (cfgs 0).N = Cert.ProjRefIdeal.Read.val_main_v65 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  obtain ⟨a, j, rfl⟩ : ∃ (a : Fin 512) (j : Fin 256), y = ix2 a j := ⟨y 0, y 1, by funext i; fin_cases i <;> rfl⟩
  have hy : ((cfg0.win 10).blk t).view.emb (ix2 a j) = ix2 (row t a) j := by blk_ext [idx t, row]
  have key := point_iq m c t a j
  generalize Cert.ProjRefIdeal.Read.val_main_v65 (F := Ideal) (m ((c : Thread nD τ).loc main_arg0)) (m ((c : Thread nD τ).loc main_arg1)) (m ((c : Thread nD τ).loc main_arg2)) = g at key ⊢
  blk_simp
  rw [after0_10]
  frame_out
  exact key.trans (congrArg g hy.symm)

theorem final_ik (c : Dev nD) : (dats m 0 c).arrAt 11 (cfgs 0).N = Cert.ProjRefIdeal.Read.val_main_v67 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  obtain ⟨a, j, rfl⟩ : ∃ (a : Fin 512) (j : Fin 128), y = ix2 a j := ⟨y 0, y 1, by funext i; fin_cases i <;> rfl⟩
  have hy : ((cfg0.win 11).blk t).view.emb (ix2 a j) = ix2 (row t a) j := by blk_ext [idx t, row]
  have key := point_ik m c t a j
  generalize Cert.ProjRefIdeal.Read.val_main_v67 (F := Ideal) (m ((c : Thread nD τ).loc main_arg0)) (m ((c : Thread nD τ).loc main_arg1)) (m ((c : Thread nD τ).loc main_arg2)) = g at key ⊢
  blk_simp
  rw [after0_11]
  frame_out
  exact key.trans (congrArg g hy.symm)

theorem final_pu (c : Dev nD) : (dats m 0 c).arrAt 12 (cfgs 0).N = Cert.ProjRefIdeal.Read.val_main_v21 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  obtain ⟨a, j, rfl⟩ : ∃ (a : Fin 512) (j : Fin 256), y = ix2 a j := ⟨y 0, y 1, by funext i; fin_cases i <;> rfl⟩
  have hy : ((cfg0.win 12).blk t).view.emb (ix2 a j) = ix2 (row t a) j := by blk_ext [idx t, row]
  have key := point_pu m c t a j
  generalize Cert.ProjRefIdeal.Read.val_main_v21 (F := Ideal) (m ((c : Thread nD τ).loc main_arg0)) (m ((c : Thread nD τ).loc main_arg1)) (m ((c : Thread nD τ).loc main_arg2)) = g at key ⊢
  blk_simp
  rw [after0_12]
  frame_out
  exact key.trans (congrArg g hy.symm)

theorem final_pz (c : Dev nD) : (dats m 0 c).arrAt 13 (cfgs 0).N = Cert.ProjRefIdeal.Read.val_main_v68 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  obtain ⟨a, j, rfl⟩ : ∃ (a : Fin 512) (j : Fin 256), y = ix2 a j := ⟨y 0, y 1, by funext i; fin_cases i <;> rfl⟩
  have hy : ((cfg0.win 13).blk t).view.emb (ix2 a j) = ix2 (row t a) j := by blk_ext [idx t, row]
  have key := point_pz m c t a j
  generalize Cert.ProjRefIdeal.Read.val_main_v68 (F := Ideal) (m ((c : Thread nD τ).loc main_arg0)) (m ((c : Thread nD τ).loc main_arg1)) (m ((c : Thread nD τ).loc main_arg2)) = g at key ⊢
  blk_simp
  rw [after0_13]
  frame_out
  exact key.trans (congrArg g hy.symm)

end Cert.ProjIdeal.Val

end
-- ==== Proof.ProjValueC.lean ====
module

public import proofs.«01_k».proof.Proof.ProjFrame
public import proofs.«01_k».proof.Proof.Gen.ProjRefIdeal.Run
public import proofs.«01_k».proof.Proof.Gen.ProjRefIdeal.Read
public import proofs.«01_k».proof.Proof.ProjPoints
public import proofs.«01_k».proof.Proof.ProjPointsB
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem final_gq (c : Dev nD) : (dats m 0 c).arrAt 14 (cfgs 0).N = Cert.ProjRefIdeal.Read.val_main_v71 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  obtain ⟨a, j, rfl⟩ : ∃ (a : Fin 512) (j : Fin 256), y = ix2 a j := ⟨y 0, y 1, by funext i; fin_cases i <;> rfl⟩
  have hy : ((cfg0.win 14).blk t).view.emb (ix2 a j) = ix2 (row t a) j := by blk_ext [idx t, row]
  have key := point_gq m c t a j
  generalize Cert.ProjRefIdeal.Read.val_main_v71 (F := Ideal) (m ((c : Thread nD τ).loc main_arg0)) (m ((c : Thread nD τ).loc main_arg1)) (m ((c : Thread nD τ).loc main_arg2)) = g at key ⊢
  blk_simp
  rw [after0_14]
  frame_out
  exact key.trans (congrArg g hy.symm)

theorem final_gk (c : Dev nD) : (dats m 0 c).arrAt 15 (cfgs 0).N = Cert.ProjRefIdeal.Read.val_main_v74 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  obtain ⟨a, j, rfl⟩ : ∃ (a : Fin 512) (j : Fin 256), y = ix2 a j := ⟨y 0, y 1, by funext i; fin_cases i <;> rfl⟩
  have hy : ((cfg0.win 15).blk t).view.emb (ix2 a j) = ix2 (row t a) j := by blk_ext [idx t, row]
  have key := point_gk m c t a j
  generalize Cert.ProjRefIdeal.Read.val_main_v74 (F := Ideal) (m ((c : Thread nD τ).loc main_arg0)) (m ((c : Thread nD τ).loc main_arg1)) (m ((c : Thread nD τ).loc main_arg2)) = g at key ⊢
  blk_simp
  rw [after0_15]
  frame_out
  exact key.trans (congrArg g hy.symm)

theorem final_gv (c : Dev nD) : (dats m 0 c).arrAt 16 (cfgs 0).N = Cert.ProjRefIdeal.Read.val_main_v78 (F := Ideal) (m ((c : Thread nD τ).loc main_arg0)) (m ((c : Thread nD τ).loc main_arg1)) (m ((c : Thread nD τ).loc main_arg2)) := by
  refine (dats m 0 c).arrAt_eq_of_covers 16 _ (by decide +kernel) fun t _ y => ?_
  obtain ⟨a, j, rfl⟩ : ∃ (a : Fin 512) (j : Fin 512), y = ix2 a j := ⟨y 0, y 1, by funext i; fin_cases i <;> rfl⟩
  have hy : ((cfg0.win 16).blk t).view.emb (ix2 a j) = ix2 (row t a) j := by blk_ext [idx t, row]
  have key := point_gv m c t a j
  generalize Cert.ProjRefIdeal.Read.val_main_v78 (F := Ideal) (m ((c : Thread nD τ).loc main_arg0)) (m ((c : Thread nD τ).loc main_arg1)) (m ((c : Thread nD τ).loc main_arg2)) = g at key ⊢
  blk_simp
  rw [after0_16]
  frame_out
  exact key.trans (congrArg g hy.symm)

theorem final_gz (c : Dev nD) : (dats m 0 c).arrAt 17 (cfgs 0).N = Cert.ProjRefIdeal.Read.val_main_v82 (F := Ideal) (m ((c : Thread nD τ).loc main_arg0)) (m ((c : Thread nD τ).loc main_arg1)) (m ((c : Thread nD τ).loc main_arg2)) := by
  refine (dats m 0 c).arrAt_eq_of_covers 17 _ (by decide +kernel) fun t _ y => ?_
  obtain ⟨a, j, rfl⟩ : ∃ (a : Fin 512) (j : Fin 512), y = ix2 a j := ⟨y 0, y 1, by funext i; fin_cases i <;> rfl⟩
  have hy : ((cfg0.win 17).blk t).view.emb (ix2 a j) = ix2 (row t a) j := by blk_ext [idx t, row]
  have key := point_gz m c t a j
  generalize Cert.ProjRefIdeal.Read.val_main_v82 (F := Ideal) (m ((c : Thread nD τ).loc main_arg0)) (m ((c : Thread nD τ).loc main_arg1)) (m ((c : Thread nD τ).loc main_arg2)) = g at key ⊢
  blk_simp
  rw [after0_17]
  frame_out
  exact key.trans (congrArg g hy.symm)

end Cert.ProjIdeal.Val

end
-- ==== Proof.ProjValueD.lean ====
module

public import proofs.«01_k».proof.Proof.ProjFrame
public import proofs.«01_k».proof.Proof.Gen.ProjRefIdeal.Run
public import proofs.«01_k».proof.Proof.Gen.ProjRefIdeal.Read
public import proofs.«01_k».proof.Proof.ProjPoints
public import proofs.«01_k».proof.Proof.ProjPointsB
public import Idealize.ShloMosaic.Lib.Pipeline.ValueKit

@[expose] public section

set_option maxRecDepth 16384

noncomputable section

namespace Cert.ProjIdeal.Val

open Cert.ProjIdeal Cert.ProjIdeal.Gen Cert.ProjIdeal.Fr Idealize.ShloMosaic Idealize.ShloMosaic.TcCoe Idealize.SL.Sem
open Idealize.ShloMosaic.Pipeline (Dat)

variable (m : (ℓ : Loc nD τ sig) → Buf (Elt Ideal) ℓ)

theorem final_gg (c : Dev nD) : (dats m 0 c).arrAt 18 (cfgs 0).N = Cert.ProjRefIdeal.Read.val_main_v83 (F := Ideal) (m ((c : Thread nD τ).loc main_arg0)) (m ((c : Thread nD τ).loc main_arg1)) (m ((c : Thread nD τ).loc main_arg2)) := by
  refine (dats m 0 c).arrAt_eq_of_covers 18 _ (by decide +kernel) fun t _ y => ?_
  obtain ⟨a, j, rfl⟩ : ∃ (a : Fin 512) (j : Fin 128), y = ix2 a j := ⟨y 0, y 1, by funext i; fin_cases i <;> rfl⟩
  have hy : ((cfg0.win 18).blk t).view.emb (ix2 a j) = ix2 (row t a) j := by blk_ext [idx t, row]
  have key := point_gg m c t a j
  generalize Cert.ProjRefIdeal.Read.val_main_v83 (F := Ideal) (m ((c : Thread nD τ).loc main_arg0)) (m ((c : Thread nD τ).loc main_arg1)) (m ((c : Thread nD τ).loc main_arg2)) = g at key ⊢
  blk_simp
  rw [after0_18]
  frame_out
  exact key.trans (congrArg g hy.symm)

theorem final_iw (c : Dev nD) : (dats m 0 c).arrAt 20 (cfgs 0).N = Cert.ProjRefIdeal.Read.val_main_v88 (F := Ideal) (m ((c : Thread nD τ).loc main_arg0)) (m ((c : Thread nD τ).loc main_arg1)) (m ((c : Thread nD τ).loc main_arg2)) := by
  refine (dats m 0 c).arrAt_eq_of_covers 20 _ (by decide +kernel) fun t _ y => ?_
  obtain ⟨e, a, rfl⟩ : ∃ (e : Fin 8) (a : Fin 512), y = ix2 e a := ⟨y 0, y 1, by funext i; fin_cases i <;> rfl⟩
  have hy : ((cfg0.win 20).blk t).view.emb (ix2 e a) = ix2 e (row t a) := by blk_ext [idx t, row]
  have key := point_iw m c t e a
  generalize Cert.ProjRefIdeal.Read.val_main_v88 (F := Ideal) (m ((c : Thread nD τ).loc main_arg0)) (m ((c : Thread nD τ).loc main_arg1)) (m ((c : Thread nD τ).loc main_arg2)) = g at key ⊢
  blk_simp
  rw [after0_20]
  frame_out
  exact key.trans (congrArg g hy.symm)

theorem final_vt (c : Dev nD) : (dats m 0 c).arrAt 19 (cfgs 0).N = Cert.ProjRefIdeal.Read.val_main_v86 (F := Ideal) (m ((c : Thread nD τ).loc main_arg0)) (m ((c : Thread nD τ).loc main_arg1)) (m ((c : Thread nD τ).loc main_arg2)) := by
  refine (dats m 0 c).arrAt_eq_of_covers 19 _ (by decide +kernel) fun t _ y => ?_
  obtain ⟨b, e, j, rfl⟩ : ∃ (b : Fin 2) (e : Fin 384) (j : Fin 256), y = ix3 b e j := ⟨y 0, y 1, y 2, by funext i; fin_cases i <;> rfl⟩
  have hN : t.val < 128 := lt_of_lt_of_eq t.isLt (by decide +kernel)
  have ht : t.val * 2 + b.val < 256 := by omega
  have hy : ((cfg0.win 19).blk t).view.emb (ix3 b e j) = ix3 ⟨t.val * 2 + b.val, ht⟩ e j := by blk_ext [idx t]
  have key := point_vt m c t b e j ht
  generalize Cert.ProjRefIdeal.Read.val_main_v86 (F := Ideal) (m ((c : Thread nD τ).loc main_arg0)) (m ((c : Thread nD τ).loc main_arg1)) (m ((c : Thread nD τ).loc main_arg2)) = g at key ⊢
  blk_simp
  rw [after0_19]
  frame_out
  exact key.trans (congrArg g hy.symm)

end Cert.ProjIdeal.Val

end
-- ==== Proof.ProjClaims.lean ====
module

public import proofs.«01_k».proof.Defs
public import proofs.«01_k».proof.Proof.Gen.Proj
public import proofs.«01_k».proof.Proof.Gen.ProjIdeal
public import proofs.«01_k».proof.Proof.Gen.ProjRefIdeal
public import proofs.«01_k».proof.Proof.ProjValueA
public import proofs.«01_k».proof.Proof.ProjValueB
public import proofs.«01_k».proof.Proof.ProjValueC
public import proofs.«01_k».proof.Proof.ProjValueD
public import proofs.«01_k».proof.Proof.ProjFrame
public import proofs.«01_k».proof.Proof.Gen.ProjRefIdeal.Run
public import proofs.«01_k».proof.Proof.Gen.ProjRefIdeal.Read
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The input projection's reference runs and leaves its arguments and counters. -/
theorem proj_ref_frame : Cert.quiescent_ProjRefIdeal := by
  intro m g _
  exact θ_run_mono (Cert.ProjRefIdeal.Value.run (F := Ideal) m g) fun r h =>
    ⟨fun c => (h c).2.2.2.2.2.2.2.2.2.2.2.2.2.2, sem_eq_zero_of_no_sems (by decide) r.2⟩

/-- The projection's words run is stated over the same program as its real-number run. -/
theorem proj_same : Cert.quiescent_Proj =
    (∀ (m : (ℓ : Loc Cert.ProjIdeal.nD Cert.ProjIdeal.τ Cert.ProjIdeal.sig) → Buf (Elt Bits) ℓ) (g : Dev Cert.ProjIdeal.nD → PrngReg), True →
    θ_run (Cert.ProjIdeal.defs (F := Bits)) (onTc (τ := Cert.ProjIdeal.τ) (Cert.ProjIdeal.main (F := Bits))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)) := by
  sl_kernel_rfl

/-- The input projection runs and leaves its arguments and counters. -/
theorem proj_frame : Cert.quiescent_Proj :=
  proj_same.mpr fun m ρ _ => Cert.ProjIdeal.Fr.frame (F := Bits) m ρ

/-- The input projection over the reals runs and leaves its arguments and counters. -/
theorem proj_ideal_frame : Cert.quiescent_ProjIdeal := fun m ρ _ => Cert.ProjIdeal.Fr.frame m ρ

set_option maxHeartbeats 3000000 in
/-- The input projection ends with the reference's fourteen arrays, as functions of its arguments. -/
theorem proj_run (m : (ℓ : Loc Cert.ProjIdeal.nD Cert.ProjIdeal.τ Cert.ProjIdeal.sig) → Buf (Elt Ideal) ℓ) (g : Dev Cert.ProjIdeal.nD → PrngReg) :
    θ_run (Cert.ProjIdeal.defs (F := Ideal)) (onTc (τ := Cert.ProjIdeal.τ) (Cert.ProjIdeal.main (F := Ideal))) ⟨m, fun _ => 0, g⟩ fun r => ∀ c : Dev Cert.ProjIdeal.nD,
      r.2.mem (c.tc.loc Cert.ProjIdeal.main_v57_0) = Cert.ProjRefIdeal.Read.val_main_v62 (F := Ideal) (m (c.tc.loc Cert.ProjIdeal.main_arg0)) (m (c.tc.loc Cert.ProjIdeal.main_arg1)) (m (c.tc.loc Cert.ProjIdeal.main_arg2)) (m (c.tc.loc Cert.ProjIdeal.main_arg3))
      ∧ r.2.mem (c.tc.loc Cert.ProjIdeal.main_v57_1) = Cert.ProjRefIdeal.Read.val_main_v63 (F := Ideal) (m (c.tc.loc Cert.ProjIdeal.main_arg0)) (m (c.tc.loc Cert.ProjIdeal.main_arg1)) (m (c.tc.loc Cert.ProjIdeal.main_arg2)) (m (c.tc.loc Cert.ProjIdeal.main_arg4))
      ∧ r.2.mem (c.tc.loc Cert.ProjIdeal.main_v57_2) = Cert.ProjRefIdeal.Read.val_main_v64 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_3) = Cert.ProjRefIdeal.Read.val_main_v65 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_4) = Cert.ProjRefIdeal.Read.val_main_v67 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_5) = Cert.ProjRefIdeal.Read.val_main_v21 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_6) = Cert.ProjRefIdeal.Read.val_main_v68 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_7) = Cert.ProjRefIdeal.Read.val_main_v71 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_8) = Cert.ProjRefIdeal.Read.val_main_v74 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_9) = Cert.ProjRefIdeal.Read.val_main_v78 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_10) = Cert.ProjRefIdeal.Read.val_main_v82 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_11) = Cert.ProjRefIdeal.Read.val_main_v83 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_12) = Cert.ProjRefIdeal.Read.val_main_v86 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_v57_13) = Cert.ProjRefIdeal.Read.val_main_v88 (F := Ideal) (m (c.tc.loc Cert.ProjIdeal.main_arg0)) (m (c.tc.loc Cert.ProjIdeal.main_arg1)) (m (c.tc.loc Cert.ProjIdeal.main_arg2))
      ∧ r.2.mem (c.tc.loc Cert.ProjIdeal.main_arg0) = m (c.tc.loc Cert.ProjIdeal.main_arg0)
      ∧ r.2.mem (c.tc.loc Cert.ProjIdeal.main_arg1) = m (c.tc.loc Cert.ProjIdeal.main_arg1)
      ∧ r.2.mem (c.tc.loc Cert.ProjIdeal.main_arg2) = m (c.tc.loc Cert.ProjIdeal.main_arg2)
      ∧ r.2.mem (c.tc.loc Cert.ProjIdeal.main_arg3) = m (c.tc.loc Cert.ProjIdeal.main_arg3)
      ∧ r.2.mem (c.tc.loc Cert.ProjIdeal.main_arg4) = m (c.tc.loc Cert.ProjIdeal.main_arg4) :=
  θ_run_mono (Cert.ProjIdeal.Fr.run_blocks m g) fun r h c => by
  obtain ⟨e0, e1, e2, e3, e4, e5, e6, e7, e8, e9, e10, e11, e12, e13,  e⟩ := h c
  exact ⟨e0.trans (Cert.ProjIdeal.Val.final_q m c),
    e1.trans (Cert.ProjIdeal.Val.final_k m c),
    e2.trans (Cert.ProjIdeal.Val.final_z m c),
    e3.trans (Cert.ProjIdeal.Val.final_iq m c),
    e4.trans (Cert.ProjIdeal.Val.final_ik m c),
    e5.trans (Cert.ProjIdeal.Val.final_pu m c),
    e6.trans (Cert.ProjIdeal.Val.final_pz m c),
    e7.trans (Cert.ProjIdeal.Val.final_gq m c),
    e8.trans (Cert.ProjIdeal.Val.final_gk m c),
    e9.trans (Cert.ProjIdeal.Val.final_gv m c),
    e10.trans (Cert.ProjIdeal.Val.final_gz m c),
    e11.trans (Cert.ProjIdeal.Val.final_gg m c),
    e12.trans (Cert.ProjIdeal.Val.final_vt m c),
    e13.trans (Cert.ProjIdeal.Val.final_iw m c), e⟩

set_option maxHeartbeats 3000000 in
/-- The reference ends with the same functions of its own arguments. -/
theorem proj_ref_run (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ fun r => ∀ c : Dev Cert.ProjRefIdeal.nD,
      r.2.mem (c.tc.loc Cert.ProjRefIdeal.main_v62) = Cert.ProjRefIdeal.Read.val_main_v62 (F := Ideal) (m (c.tc.loc Cert.ProjRefIdeal.main_arg0)) (m (c.tc.loc Cert.ProjRefIdeal.main_arg1)) (m (c.tc.loc Cert.ProjRefIdeal.main_arg2)) (m (c.tc.loc Cert.ProjRefIdeal.main_arg3))
      ∧ r.2.mem (c.tc.loc Cert.ProjRefIdeal.main_v63) = Cert.ProjRefIdeal.Read.val_main_v63 (F := Ideal) (m (c.tc.loc Cert.ProjRefIdeal.main_arg0)) (m (c.tc.loc Cert.ProjRefIdeal.main_arg1)) (m (c.tc.loc Cert.ProjRefIdeal.main_arg2)) (m (c.tc.loc Cert.ProjRefIdeal.main_arg4))
      ∧ r.2.mem (c.tc.loc Cert.ProjRefIdeal.main_v64) = Cert.ProjRefIdeal.Read.val_main_v64 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v65) = Cert.ProjRefIdeal.Read.val_main_v65 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v67) = Cert.ProjRefIdeal.Read.val_main_v67 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v21) = Cert.ProjRefIdeal.Read.val_main_v21 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v68) = Cert.ProjRefIdeal.Read.val_main_v68 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v71) = Cert.ProjRefIdeal.Read.val_main_v71 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v74) = Cert.ProjRefIdeal.Read.val_main_v74 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v78) = Cert.ProjRefIdeal.Read.val_main_v78 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v82) = Cert.ProjRefIdeal.Read.val_main_v82 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v83) = Cert.ProjRefIdeal.Read.val_main_v83 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v86) = Cert.ProjRefIdeal.Read.val_main_v86 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_v88) = Cert.ProjRefIdeal.Read.val_main_v88 (F := Ideal) (m (c.tc.loc Cert.ProjRefIdeal.main_arg0)) (m (c.tc.loc Cert.ProjRefIdeal.main_arg1)) (m (c.tc.loc Cert.ProjRefIdeal.main_arg2))
      ∧ r.2.mem (c.tc.loc Cert.ProjRefIdeal.main_arg0) = m (c.tc.loc Cert.ProjRefIdeal.main_arg0)
      ∧ r.2.mem (c.tc.loc Cert.ProjRefIdeal.main_arg1) = m (c.tc.loc Cert.ProjRefIdeal.main_arg1)
      ∧ r.2.mem (c.tc.loc Cert.ProjRefIdeal.main_arg2) = m (c.tc.loc Cert.ProjRefIdeal.main_arg2)
      ∧ r.2.mem (c.tc.loc Cert.ProjRefIdeal.main_arg3) = m (c.tc.loc Cert.ProjRefIdeal.main_arg3)
      ∧ r.2.mem (c.tc.loc Cert.ProjRefIdeal.main_arg4) = m (c.tc.loc Cert.ProjRefIdeal.main_arg4) :=
  θ_run_mono (Cert.ProjRefIdeal.Value.run (F := Ideal) m g) fun r h c => by
  obtain ⟨e0, e1, e2, e3, e4, e5, e6, e7, e8, e9, e10, e11, e12, e13,  e⟩ := h c
  exact ⟨e0.trans (Cert.ProjRefIdeal.Read.val_main_v62_eq (F := Ideal) (m (c.tc.loc Cert.ProjRefIdeal.main_arg0)) (m (c.tc.loc Cert.ProjRefIdeal.main_arg1)) (m (c.tc.loc Cert.ProjRefIdeal.main_arg2)) (m (c.tc.loc Cert.ProjRefIdeal.main_arg3))),
    e1.trans (Cert.ProjRefIdeal.Read.val_main_v63_eq (F := Ideal) (m (c.tc.loc Cert.ProjRefIdeal.main_arg0)) (m (c.tc.loc Cert.ProjRefIdeal.main_arg1)) (m (c.tc.loc Cert.ProjRefIdeal.main_arg2)) (m (c.tc.loc Cert.ProjRefIdeal.main_arg4))),
    e2.trans (Cert.ProjRefIdeal.Read.val_main_v64_eq (F := Ideal) (m (c.tc.loc Cert.ProjRefIdeal.main_arg0)) (m (c.tc.loc Cert.ProjRefIdeal.main_arg1)) (m (c.tc.loc Cert.ProjRefIdeal.main_arg2))),
    e3.trans (Cert.ProjRefIdeal.Read.val_main_v65_eq (F := Ideal) (m (c.tc.loc Cert.ProjRefIdeal.main_arg0)) (m (c.tc.loc Cert.ProjRefIdeal.main_arg1)) (m (c.tc.loc Cert.ProjRefIdeal.main_arg2))),
    e4.trans (Cert.ProjRefIdeal.Read.val_main_v67_eq (F := Ideal) (m (c.tc.loc Cert.ProjRefIdeal.main_arg0)) (m (c.tc.loc Cert.ProjRefIdeal.main_arg1)) (m (c.tc.loc Cert.ProjRefIdeal.main_arg2))),
    e5.trans (Cert.ProjRefIdeal.Read.val_main_v21_eq (F := Ideal) (m (c.tc.loc Cert.ProjRefIdeal.main_arg0)) (m (c.tc.loc Cert.ProjRefIdeal.main_arg1)) (m (c.tc.loc Cert.ProjRefIdeal.main_arg2))),
    e6.trans (Cert.ProjRefIdeal.Read.val_main_v68_eq (F := Ideal) (m (c.tc.loc Cert.ProjRefIdeal.main_arg0)) (m (c.tc.loc Cert.ProjRefIdeal.main_arg1)) (m (c.tc.loc Cert.ProjRefIdeal.main_arg2))),
    e7.trans (Cert.ProjRefIdeal.Read.val_main_v71_eq (F := Ideal) (m (c.tc.loc Cert.ProjRefIdeal.main_arg0)) (m (c.tc.loc Cert.ProjRefIdeal.main_arg1)) (m (c.tc.loc Cert.ProjRefIdeal.main_arg2))),
    e8.trans (Cert.ProjRefIdeal.Read.val_main_v74_eq (F := Ideal) (m (c.tc.loc Cert.ProjRefIdeal.main_arg0)) (m (c.tc.loc Cert.ProjRefIdeal.main_arg1)) (m (c.tc.loc Cert.ProjRefIdeal.main_arg2))),
    e9.trans (Cert.ProjRefIdeal.Read.val_main_v78_eq (F := Ideal) (m (c.tc.loc Cert.ProjRefIdeal.main_arg0)) (m (c.tc.loc Cert.ProjRefIdeal.main_arg1)) (m (c.tc.loc Cert.ProjRefIdeal.main_arg2))),
    e10.trans (Cert.ProjRefIdeal.Read.val_main_v82_eq (F := Ideal) (m (c.tc.loc Cert.ProjRefIdeal.main_arg0)) (m (c.tc.loc Cert.ProjRefIdeal.main_arg1)) (m (c.tc.loc Cert.ProjRefIdeal.main_arg2))),
    e11.trans (Cert.ProjRefIdeal.Read.val_main_v83_eq (F := Ideal) (m (c.tc.loc Cert.ProjRefIdeal.main_arg0)) (m (c.tc.loc Cert.ProjRefIdeal.main_arg1)) (m (c.tc.loc Cert.ProjRefIdeal.main_arg2))),
    e12.trans (Cert.ProjRefIdeal.Read.val_main_v86_eq (F := Ideal) (m (c.tc.loc Cert.ProjRefIdeal.main_arg0)) (m (c.tc.loc Cert.ProjRefIdeal.main_arg1)) (m (c.tc.loc Cert.ProjRefIdeal.main_arg2))),
    e13.trans (Cert.ProjRefIdeal.Read.val_main_v88_eq (F := Ideal) (m (c.tc.loc Cert.ProjRefIdeal.main_arg0)) (m (c.tc.loc Cert.ProjRefIdeal.main_arg1)) (m (c.tc.loc Cert.ProjRefIdeal.main_arg2))), e⟩

/-- The input projection and its reference end with the same fourteen arrays. -/
theorem proj_algebraic : Cert.algebraic_ProjIdeal_ProjRefIdeal := by
  intro m g m' g' _ hagree
  refine ⟨fun c => Cert.ProjRefIdeal.Read.val_main_v62 (F := Ideal) (m (c.tc.loc Cert.ProjIdeal.main_arg0)) (m (c.tc.loc Cert.ProjIdeal.main_arg1)) (m (c.tc.loc Cert.ProjIdeal.main_arg2)) (m (c.tc.loc Cert.ProjIdeal.main_arg3)),
    fun c => Cert.ProjRefIdeal.Read.val_main_v63 (F := Ideal) (m (c.tc.loc Cert.ProjIdeal.main_arg0)) (m (c.tc.loc Cert.ProjIdeal.main_arg1)) (m (c.tc.loc Cert.ProjIdeal.main_arg2)) (m (c.tc.loc Cert.ProjIdeal.main_arg4)),
    fun c => Cert.ProjRefIdeal.Read.val_main_v64 (F := Ideal) (m (c.tc.loc Cert.ProjIdeal.main_arg0)) (m (c.tc.loc Cert.ProjIdeal.main_arg1)) (m (c.tc.loc Cert.ProjIdeal.main_arg2)),
    fun c => Cert.ProjRefIdeal.Read.val_main_v65 (F := Ideal) (m (c.tc.loc Cert.ProjIdeal.main_arg0)) (m (c.tc.loc Cert.ProjIdeal.main_arg1)) (m (c.tc.loc Cert.ProjIdeal.main_arg2)),
    fun c => Cert.ProjRefIdeal.Read.val_main_v67 (F := Ideal) (m (c.tc.loc Cert.ProjIdeal.main_arg0)) (m (c.tc.loc Cert.ProjIdeal.main_arg1)) (m (c.tc.loc Cert.ProjIdeal.main_arg2)),
    fun c => Cert.ProjRefIdeal.Read.val_main_v21 (F := Ideal) (m (c.tc.loc Cert.ProjIdeal.main_arg0)) (m (c.tc.loc Cert.ProjIdeal.main_arg1)) (m (c.tc.loc Cert.ProjIdeal.main_arg2)),
    fun c => Cert.ProjRefIdeal.Read.val_main_v68 (F := Ideal) (m (c.tc.loc Cert.ProjIdeal.main_arg0)) (m (c.tc.loc Cert.ProjIdeal.main_arg1)) (m (c.tc.loc Cert.ProjIdeal.main_arg2)),
    fun c => Cert.ProjRefIdeal.Read.val_main_v71 (F := Ideal) (m (c.tc.loc Cert.ProjIdeal.main_arg0)) (m (c.tc.loc Cert.ProjIdeal.main_arg1)) (m (c.tc.loc Cert.ProjIdeal.main_arg2)),
    fun c => Cert.ProjRefIdeal.Read.val_main_v74 (F := Ideal) (m (c.tc.loc Cert.ProjIdeal.main_arg0)) (m (c.tc.loc Cert.ProjIdeal.main_arg1)) (m (c.tc.loc Cert.ProjIdeal.main_arg2)),
    fun c => Cert.ProjRefIdeal.Read.val_main_v78 (F := Ideal) (m (c.tc.loc Cert.ProjIdeal.main_arg0)) (m (c.tc.loc Cert.ProjIdeal.main_arg1)) (m (c.tc.loc Cert.ProjIdeal.main_arg2)),
    fun c => Cert.ProjRefIdeal.Read.val_main_v82 (F := Ideal) (m (c.tc.loc Cert.ProjIdeal.main_arg0)) (m (c.tc.loc Cert.ProjIdeal.main_arg1)) (m (c.tc.loc Cert.ProjIdeal.main_arg2)),
    fun c => Cert.ProjRefIdeal.Read.val_main_v83 (F := Ideal) (m (c.tc.loc Cert.ProjIdeal.main_arg0)) (m (c.tc.loc Cert.ProjIdeal.main_arg1)) (m (c.tc.loc Cert.ProjIdeal.main_arg2)),
    fun c => Cert.ProjRefIdeal.Read.val_main_v86 (F := Ideal) (m (c.tc.loc Cert.ProjIdeal.main_arg0)) (m (c.tc.loc Cert.ProjIdeal.main_arg1)) (m (c.tc.loc Cert.ProjIdeal.main_arg2)),
    fun c => Cert.ProjRefIdeal.Read.val_main_v88 (F := Ideal) (m (c.tc.loc Cert.ProjIdeal.main_arg0)) (m (c.tc.loc Cert.ProjIdeal.main_arg1)) (m (c.tc.loc Cert.ProjIdeal.main_arg2)),
    proj_run m g, θ_run_mono (proj_ref_run m' g') fun r h c => ?_⟩
  obtain ⟨h0, h1, h2, h3, h4⟩ := hagree c
  have e := h c
  refine ⟨(e.1).trans (by rw [h0, h1, h2, h3]),
    (e.2.1).trans (by rw [h0, h1, h2, h4]),
    (e.2.2.1).trans (by rw [h0, h1, h2]),
    (e.2.2.2.1).trans (by rw [h0, h1, h2]),
    (e.2.2.2.2.1).trans (by rw [h0, h1, h2]),
    (e.2.2.2.2.2.1).trans (by rw [h0, h1, h2]),
    (e.2.2.2.2.2.2.1).trans (by rw [h0, h1, h2]),
    (e.2.2.2.2.2.2.2.1).trans (by rw [h0, h1, h2]),
    (e.2.2.2.2.2.2.2.2.1).trans (by rw [h0, h1, h2]),
    (e.2.2.2.2.2.2.2.2.2.1).trans (by rw [h0, h1, h2]),
    (e.2.2.2.2.2.2.2.2.2.2.1).trans (by rw [h0, h1, h2]),
    (e.2.2.2.2.2.2.2.2.2.2.2.1).trans (by rw [h0, h1, h2]),
    (e.2.2.2.2.2.2.2.2.2.2.2.2.1).trans (by rw [h0, h1, h2]),
    (e.2.2.2.2.2.2.2.2.2.2.2.2.2.1).trans (by rw [h0, h1, h2]),
    e.2.2.2.2.2.2.2.2.2.2.2.2.2.2⟩

end Cert.Proof

end
-- ==== Proof.lean ====
module

public import proofs.«01_k».proof.Defs
public import proofs.«01_k».proof.Proof.Gen.Kernel
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.AttnFrame
public import proofs.«01_k».proof.Proof.OutValue
public import proofs.«01_k».proof.Proof.Gen.Proj
public import proofs.«01_k».proof.Proof.Gen.ProjIdeal
public import proofs.«01_k».proof.Proof.Gen.ProjRefIdeal
public import proofs.«01_k».proof.Proof.ProjClaims
public import Idealize.ShloMosaic.Adequacy
public import Idealize.ShloMosaic.Init

@[expose] public section

noncomputable section

namespace Cert.Proof

open Idealize.ShloMosaic Idealize.SL.Sem

/-- The output projection and its reference end with the same array. -/
theorem out_algebraic : Cert.algebraic_OutIdeal_OutRefIdeal := by
  pair_intro
  · run_from Cert.OutIdeal.Value.run_blocks m g
  · run_from Cert.OutRefIdeal.Value.run m' g'
    obtain ⟨h0, h1, h2, h3, h4⟩ := hagree c
    rw [h1, h2, h3, Cert.OutIdeal.Val.final m c]
    exact (Cert.OutRefIdeal.Read.val_main_v2_eq _ _ _ _ _).symm

/-- The output projection's reference runs and leaves its arguments and counters. -/
theorem out_ref_frame : Cert.quiescent_OutRefIdeal := by
  intro m g _
  exact θ_run_mono (Cert.OutRefIdeal.Value.run (F := Ideal) m g) fun r h =>
    ⟨fun c => (h c).2, sem_eq_zero_of_no_sems (by decide) r.2⟩

theorem claim : Cert.Claim :=
  ⟨Cert.Kernel.Gen.facts, Cert.Out.Gen.facts, Cert.OutIdeal.Gen.facts, Cert.OutRefIdeal.Gen.facts,
    Cert.Proj.Gen.facts, Cert.ProjIdeal.Gen.facts, Cert.ProjRefIdeal.Gen.facts,
    fun m ρ _ => Cert.Kernel.Attn.frame_run m ρ,
    fun m ρ _ => Cert.Out.Gen.frame m ρ, fun m ρ _ => Cert.OutIdeal.Gen.frame m ρ, out_ref_frame,
    proj_frame, proj_ideal_frame, proj_ref_frame,
    trivial, out_algebraic, trivial, proj_algebraic⟩

end Cert.Proof

end
